-- ==== Defs.lean ====
def Pre_Kernel (m : (ℓ : Loc Cert.Kernel.nD Cert.Kernel.τ Cert.Kernel.sig) → Buf (Elt Bits) ℓ) : Prop :=
  True

def Pre_Kernel_top_strict [hPre_top_strict : Cert.Pre_top_strict.Facts] (m : (ℓ : Loc Cert.Kernel.nD Cert.Kernel.τ Cert.Kernel.sig) → Buf (Elt Bits) ℓ) : Prop :=
  ∀ c : Dev Cert.Kernel.nD,
    (Cert.Pre_top_strict.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_top_strict : Cert.Pre_top_strict.Facts] (m : (ℓ : Loc Cert.KernelIdeal.nD Cert.KernelIdeal.τ Cert.KernelIdeal.sig) → Buf (Elt Ideal) ℓ) : Prop :=
  ∀ c : Dev Cert.KernelIdeal.nD,
    (Cert.Pre_top_strict.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_strict [hPre_top_strict : Cert.Pre_top_strict.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_strict.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_top_strict [hKernel : Cert.Kernel.Facts] [hPre_top_strict : Cert.Pre_top_strict.Facts] : Prop :=
  ∀ (m : (ℓ : Loc Cert.Kernel.nD Cert.Kernel.τ Cert.Kernel.sig) → Buf (Elt Bits) ℓ) (g : Dev Cert.Kernel.nD → PrngReg), Pre_Kernel_top_strict m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_top_strict : Cert.Pre_top_strict.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_top_strict [hReferenceIdeal : Cert.ReferenceIdeal.Facts] [hPre_top_strict : Cert.Pre_top_strict.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_strict m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_top_strict : Cert.Pre_top_strict.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v2_1)) (v4 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_cst) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_cst_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_top_strict : Cert.Pre_top_strict.Facts),
    quiescent_Kernel (hKernel := hKernel)
    ∧ quiescent_Kernel_pre_top_strict (hKernel := hKernel) (hPre_top_strict := hPre_top_strict)
    ∧ quiescent_KernelIdeal (hKernelIdeal := hKernelIdeal) (hPre_top_strict := hPre_top_strict)
    ∧ quiescent_ReferenceIdeal (hReferenceIdeal := hReferenceIdeal)
    ∧ quiescent_ReferenceIdeal_pre_top_strict (hReferenceIdeal := hReferenceIdeal) (hPre_top_strict := hPre_top_strict)
    ∧ preserves_Kernel_KernelIdeal
    ∧ algebraic_KernelIdeal_ReferenceIdeal (hKernelIdeal := hKernelIdeal) (hReferenceIdeal := hReferenceIdeal) (hPre_top_strict := hPre_top_strict)
-- ==== Pre_top_strict.lean ====
abbrev S4x4096x2048 : Shape := ⟨3, ![4, 4096, 2048]⟩
abbrev S64x2048 : Shape := ⟨2, ![64, 2048]⟩
abbrev S16384x2048 : Shape := ⟨2, ![16384, 2048]⟩
abbrev S2048x64 : Shape := ⟨2, ![2048, 64]⟩
abbrev S16384x64 : Shape := ⟨2, ![16384, 64]⟩
abbrev S16384x9 : Shape := ⟨2, ![16384, 9]⟩
abbrev S16384x8 : Shape := ⟨2, ![16384, 8]⟩
abbrev S_ : Shape := ⟨0, ![]⟩

class Facts : Prop where
  shapeCasts_S4x4096x2048_S16384x2048 : S4x4096x2048.ShapeCasts S16384x2048
  transposes_S64x2048_S2048x64_1_0 : S64x2048.Transposes [1, 0] S2048x64
  sliceFits_S16384x64_S16384x9 : S16384x64.Slices (fun _ => 0) S16384x9
  slices_S16384x9_S16384x8_0_0 : S16384x9.Slices ![0, 0] S16384x8
  slices_S16384x9_S16384x8_0_1 : S16384x9.Slices ![0, 1] S16384x8
  bcast_S_S16384x8 : S_.BroadcastsInDim S16384x8 (![] : Fin 0 → Fin S16384x8.rank)
  dot_S16384x2048_S2048x64_S16384x64_1_0_0_1_n_n_wf : DotDims.WF S16384x2048 S2048x64 S16384x64 [1] [0] [0] [1] [] []

variable [Facts]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf
def fn {F : FTy → Type} [FloatOps F] (main_arg0 : FVec F S4x4096x2048 .f32) (main_arg1 : FVec F S64x2048 .f32) : IVec S16384x8 1 :=
  let main_v0 : FVec F S16384x2048 .f32 := shapeCast S16384x2048 main_arg0 shapeCasts_S4x4096x2048_S16384x2048
  let main_v1 : FVec F S2048x64 .f32 := (transpose S2048x64 [1, 0] · transposes_S64x2048_S2048x64_1_0) main_arg1
  let main_v2 : FVec F S16384x64 .f32 := (fun l r => Host.dotGeneral dot_S16384x2048_S2048x64_S16384x64_1_0_0_1_n_n none l r) main_v0 main_v1
  let main_values : FVec F S16384x9 .f32 := (fun x => (Host.topK S16384x9 1 (FloatOps.cmpfTotal .gt) x sliceFits_S16384x64_S16384x9).1) main_v2
  let main_indices : IVec S16384x9 32 := (fun x => (Host.topK S16384x9 1 (FloatOps.cmpfTotal .gt) x sliceFits_S16384x64_S16384x9).2) main_v2
  let main_v3 : FVec F S16384x8 .f32 := (extractStridedSlice S16384x8 ![0, 0] · slices_S16384x9_S16384x8_0_0) main_values
  let main_v4 : FVec F S16384x8 .f32 := (extractStridedSlice S16384x8 ![0, 1] · slices_S16384x9_S16384x8_0_1) main_values
  let main_v5 : IVec S16384x8 1 := cmpf .ogt main_v3 main_v4
  let main_v6 : FVec F S16384x8 .f32 := (extractStridedSlice S16384x8 ![0, 0] · slices_S16384x9_S16384x8_0_0) main_values
  let main_cst : FVec F S_ .f32 := constant S_ .f32 0x7F800000#32
  let main_v7 : FVec F S16384x8 .f32 := broadcastInDim S16384x8 ![] bcast_S_S16384x8 main_cst
  let main_v8 : IVec S16384x8 1 := cmpf .olt main_v6 main_v7
  let main_v9 : IVec S16384x8 1 := andi main_v5 main_v8
  main_v9
-- ==== Kernel.lean ====
abbrev S4x4096x2048 : Shape := ⟨3, ![4, 4096, 2048]⟩
abbrev S64x2048 : Shape := ⟨2, ![64, 2048]⟩
abbrev S16384x2048 : Shape := ⟨2, ![16384, 2048]⟩
abbrev S2048x64 : Shape := ⟨2, ![2048, 64]⟩
abbrev S16384x64 : Shape := ⟨2, ![16384, 64]⟩
abbrev S16384x8 : Shape := ⟨2, ![16384, 8]⟩
abbrev S2048x2048 : Shape := ⟨2, ![2048, 2048]⟩
abbrev S2048x8 : Shape := ⟨2, ![2048, 8]⟩
abbrev S2048x1 : Shape := ⟨2, ![2048, 1]⟩
abbrev S2048 : Shape := ⟨1, ![2048]⟩
abbrev S2048x128 : Shape := ⟨2, ![2048, 128]⟩
abbrev S2048x120 : Shape := ⟨2, ![2048, 120]⟩
abbrev S2048x128x1 : Shape := ⟨3, ![2048, 128, 1]⟩
abbrev S4x4096x8 : Shape := ⟨3, ![4, 4096, 8]⟩
abbrev S_ : Shape := ⟨0, ![]⟩

abbrev nBuf : Space → Nat
  | .hbm => 11
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S2048x64, .f32⟩
  | .hbm, ⟨4, _⟩ => ⟨S16384x64, .f32⟩
  | .hbm, ⟨5, _⟩ => ⟨S16384x64, .f32⟩
  | .hbm, ⟨6, _⟩ => ⟨S16384x8, .f32⟩
  | .hbm, ⟨7, _⟩ => ⟨S16384x8, .i32⟩
  | .hbm, ⟨8, _⟩ => ⟨S4x4096x8, .f32⟩
  | .hbm, ⟨9, _⟩ => ⟨S4x4096x8, .i32⟩
  | .hbm, ⟨10, _⟩ => ⟨S_, .f32⟩
  | .local _ .vmem, ⟨0, _⟩ => ⟨S2048x2048, .f32⟩
  | .local _ .vmem, ⟨1, _⟩ => ⟨S2048x2048, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x8, .f32⟩
  | .local _ .vmem, ⟨8, _⟩ => ⟨S2048x8, .f32⟩
  | .local _ .vmem, ⟨9, _⟩ => ⟨S2048x8, .i32⟩
  | .local _ .vmem, ⟨10, _⟩ => ⟨S2048x8, .i32⟩
  | .local _ .vmem, ⟨11, _⟩ => ⟨S2048x64, .f32⟩
  | .local _ .vmem, ⟨12, _⟩ => ⟨S2048x1, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x4096x2048 : Shape := ⟨3, ![4, 4096, 2048]⟩
abbrev S64x2048 : Shape := ⟨2, ![64, 2048]⟩
abbrev S16384x2048 : Shape := ⟨2, ![16384, 2048]⟩
abbrev S2048x64 : Shape := ⟨2, ![2048, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x8 : Shape := ⟨2, ![16384, 8]⟩
abbrev S4x4096x8 : Shape := ⟨3, ![4, 4096, 8]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S2048x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S16384x8, .f32⟩
  | .hbm, ⟨20, _⟩ => ⟨S16384x8, .i32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x8, .f32⟩
  | .hbm, ⟨28, _⟩ => ⟨S16384x8, .f32⟩
  | .hbm, ⟨29, _⟩ => ⟨S4x4096x8, .f32⟩
  | .hbm, ⟨30, _⟩ => ⟨S4x4096x8, .i32⟩
  | .hbm, ⟨31, _⟩ => ⟨S_, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩

abbrev nD : Nat := 1
abbrev τ : Topo := Topo.v7x

variable {F : FTy → Type} [FloatOps F]
-- ==== Proof.Run.Setup.lean ====
/-
  What the three runs of the router body share: the body's two branch conditions over the grid, where the
  windows are idle, the scratch operands, and the names of what the body stores.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The selection runs at a point: the grid coordinate is positive. -/
abbrev selects (i : grid0.Coords) : Prop := k0_cond1 i = 1#1
/-- The selection runs from point 1 on. -/
theorem selects_iff : ∀ t : Fin cfg0.N, selects (grid0.coords t) ↔ 1 ≤ t.val :=
  (by decide +kernel : ∀ t : Fin grid0.N, selects (grid0.coords t) ↔ 1 ≤ t.val)

/-- The gate runs at a point: the grid coordinate is below 8. -/
abbrev gates (i : grid0.Coords) : Prop := k0_cond2 i = 1#1
/-- The gate runs before point 8. -/
theorem gates_iff : ∀ t : Fin cfg0.N, gates (grid0.coords t) ↔ t.val < 8 :=
  (by decide +kernel : ∀ t : Fin grid0.N, gates (grid0.coords t) ↔ t.val < 8)

/-! ## The operands -/

/-- The carried logits: a whole scoped buffer. -/
abbrev scL : Memref sig .tc .vmem S2048x64 .f32 := Memref.whole cc0_scratch0
/-- The carried softmax sums: a whole scoped buffer. -/
abbrev scS : Memref sig .tc .vmem S2048x1 .f32 := Memref.whole cc0_scratch1

/-- The launch's invariant: the two scratch buffers at some contents and the generator register. -/
theorem PhiA_eq (c : Dev nD) :
    (Pipeline.ΦA spec0 c : sProp 𝕄)
      = iprop(iprop((∃ d, owns (c : Thread nD τ) scL fullShare d) ∗ (∃ d, owns (c : Thread nD τ) scS fullShare d)) ∗ (∃ r, prngReg c r)) := by
  unfold Pipeline.ΦA; rw [scopedRest0_eq]; simp only [scL, scS, owns_whole]; try rfl

/-! ## What the body stores -/

/-- The eight expert indices of each row, selected from the carried logits. -/
def selIdx (l : Vec F S2048x64 .f32) : IVec S2048x8 32 :=
  k0_pay17 (iota .tc S2048x64 32 [1] iota_S2048x64_d1_w32) (iota .tc S2048x8 32 [1] iota_S2048x8_d1_w32)
    (k0_pay13 l) (k0_pay15 l) (k0_pay16 l) (Scalar.ofBits .f32 0xFF800000#32)

/-- The eight routing weights of each row, from the carried logits and the carried softmax sums. -/
def selW (l : Vec F S2048x64 .f32) (s : Vec F S2048x1 .f32) : FVec F S2048x8 .f32 :=
  k0_pay1 s (k0_pay18 l)
    (k0_pay19 (iota .tc S2048x64 32 [1] iota_S2048x64_d1_w32) (iota .tc S2048x8 32 [1] iota_S2048x8_d1_w32)
      (k0_pay13 l) (k0_pay15 l) (k0_pay16 l) (Scalar.ofBits .f32 0xFF800000#32)) 0#32

/-- Zero offsets on two axes, however spelt. -/
theorem zeros2 : (![0, 0] : Fin 2 → ℕ) = fun _ => 0 := by decide

/-- A buffer whose whole extent one store has covered reads back that store's payload. -/
theorem read_store_whole {sg : RefSig} {κ : Kind} {sp : Space} {S : Shape} {e : EltTy}
    (v : View sg κ sp S e) (f : v.ty.Contents (Elt F)) {off : Fin S.rank → ℕ} (h : off = fun _ => 0)
    (inb : ∀ k, off k + S.size k ≤ S.size k) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h inb w]

/-- A load of a whole buffer holding `X` reads `X`. -/
theorem load_whole {sg : RefSig} {κ : Kind} {sp : Space} {S : Shape} {e : EltTy} (M : Memref sg κ sp S e) (hM : M.IsWhole)
    {off : Fin S.rank → ℕ} (h : off = fun _ => 0) (inb : ∀ k, off k + S.size k ≤ S.size k) (X : S.Idx → Elt F e) :
    M.view.readAt (Elt F) (Rect.unit off S.size inb).toLoadRect (hM.unread X) = X := by
  rw [View.readAt_eq_ld, hM.read_unread, View.ld_unit_zero h inb X]

end Cert.KernelIdeal.Hand

end
-- ==== Proof.Run.First.lean ====
/-
  Point 0: the gate alone — logits, softmax and the carried pair are stored.
-/
module

public import proofs.«01_k».proof.Proof.Run.Setup

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Point 0: the gate alone — logits, softmax and the carried pair are stored. The body's triple on whole buffers at named contents. -/
theorem runFirst (c : Dev nD) (i : grid0.Coords) (arg1 : Memref sig .tc .vmem S2048x2048 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S2048x64 .f32) (harg4 : arg4.IsWhole)
    (arg5 : Memref sig .tc .vmem S2048x8 .f32) (harg5 : arg5.IsWhole) (arg6 : Memref sig .tc .vmem S2048x8 .i32) (harg6 : arg6.IsWhole) (arg7 : Memref sig .tc .vmem S2048x64 .f32) (harg7 : arg7.IsWhole) (arg8 : Memref sig .tc .vmem S2048x1 .f32) (harg8 : arg8.IsWhole)
    (hc0 : ¬ selects i) (hc1 : gates i)
    (x0 : Vec F S2048x2048 .f32) (x1 x2 x3 : Vec F S2048x64 .f32) (x4 : Vec F S2048x8 .f32) (x5 : Vec F S2048x8 .i32) (l : Vec F S2048x64 .f32) (s : Vec F S2048x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare l ∗ owns (c : Thread nD τ) arg8 fullShare s
        ∗ (iprop(owns (c : Thread nD τ) arg1 fullShare x0 ∗ owns (c : Thread nD τ) arg2 fullShare x1 ∗ owns (c : Thread nD τ) arg3 fullShare (k0_pay2 x0 x1) ∗ owns (c : Thread nD τ) arg4 fullShare (k0_pay5 x0 x1) ∗ owns (c : Thread nD τ) arg5 fullShare x4 ∗ owns (c : Thread nD τ) arg6 fullShare x5 ∗ owns (c : Thread nD τ) arg7 fullShare (k0_pay6 x0 x1) ∗ owns (c : Thread nD τ) arg8 fullShare (k0_pay7 x0 x1)) -∗ K ⟨⟩))
      ⊢ wp frame (wpE (defs₀ (F := F)) Variants.none c none) E (cc0__router_body i arg1 harg1 arg2 harg2 arg3 harg3 arg4 harg4 arg5 harg5 arg6 harg6 arg7 harg7 arg8 harg8) K := by
    simp only [cc0__router_body_eq_skeleton]; unfold cc0__router_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    have e0 := load_whole (F := F) (S := S2048x2048) arg1 harg1 zeros2 inb_S2048x2048_S2048x2048_0_0 x0
    have e1 := load_whole (F := F) (S := S2048x64) arg2 harg2 zeros2 inb_S2048x64_S2048x64_0_0 x1
    sl_exec (disch := first | sl_exact hc0 | sl_exact hc1)
    sl_step
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; rw [read_store_whole (S := S2048x64) _ _ zeros2]
    isplitl [H3]
    · iexists _; isplitr; swap; · iexact H3
      ipureintro; rw [read_store_whole (S := S2048x64) _ _ zeros2]
    isplitl [H4]
    · iexists _; isplitr; swap; · iexact H4
      ipureintro; exact harg5.read_unread _
    isplitl [H5]
    · iexists _; isplitr; swap; · iexact H5
      ipureintro; exact harg6.read_unread _
    isplitl [HS0]
    · iexists _; isplitr; swap; · iexact HS0
      ipureintro; rw [read_store_whole (S := S2048x64) _ _ zeros2]
    · iexists _; isplitr; swap; · iexact HS1
      ipureintro; rw [read_store_whole (S := S2048x1) _ _ zeros2]

end Cert.KernelIdeal.Hand

end
-- ==== Proof.Run.Middle.lean ====
/-
  Points 1 to 7: the selection over what the point before carried, then the gate.
-/
module

public import proofs.«01_k».proof.Proof.Run.First

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Points 1 to 7: the selection over what the point before carried, then the gate. The body's triple on whole buffers at named contents. -/
theorem runMiddle (c : Dev nD) (i : grid0.Coords) (arg1 : Memref sig .tc .vmem S2048x2048 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S2048x64 .f32) (harg4 : arg4.IsWhole)
    (arg5 : Memref sig .tc .vmem S2048x8 .f32) (harg5 : arg5.IsWhole) (arg6 : Memref sig .tc .vmem S2048x8 .i32) (harg6 : arg6.IsWhole) (arg7 : Memref sig .tc .vmem S2048x64 .f32) (harg7 : arg7.IsWhole) (arg8 : Memref sig .tc .vmem S2048x1 .f32) (harg8 : arg8.IsWhole)
    (hc0 : selects i) (hc1 : gates i)
    (x0 : Vec F S2048x2048 .f32) (x1 x2 x3 : Vec F S2048x64 .f32) (x4 : Vec F S2048x8 .f32) (x5 : Vec F S2048x8 .i32) (l : Vec F S2048x64 .f32) (s : Vec F S2048x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare l ∗ owns (c : Thread nD τ) arg8 fullShare s
        ∗ (iprop(owns (c : Thread nD τ) arg1 fullShare x0 ∗ owns (c : Thread nD τ) arg2 fullShare x1 ∗ owns (c : Thread nD τ) arg3 fullShare (k0_pay2 x0 x1) ∗ owns (c : Thread nD τ) arg4 fullShare (k0_pay5 x0 x1) ∗ owns (c : Thread nD τ) arg5 fullShare (selW l s) ∗ owns (c : Thread nD τ) arg6 fullShare (selIdx l) ∗ owns (c : Thread nD τ) arg7 fullShare (k0_pay6 x0 x1) ∗ owns (c : Thread nD τ) arg8 fullShare (k0_pay7 x0 x1)) -∗ K ⟨⟩))
      ⊢ wp frame (wpE (defs₀ (F := F)) Variants.none c none) E (cc0__router_body i arg1 harg1 arg2 harg2 arg3 harg3 arg4 harg4 arg5 harg5 arg6 harg6 arg7 harg7 arg8 harg8) K := by
    simp only [cc0__router_body_eq_skeleton]; unfold cc0__router_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    have e0 := load_whole (F := F) (S := S2048x2048) arg1 harg1 zeros2 inb_S2048x2048_S2048x2048_0_0 x0
    have e1 := load_whole (F := F) (S := S2048x64) arg2 harg2 zeros2 inb_S2048x64_S2048x64_0_0 x1
    have e6 := load_whole (F := F) (S := S2048x64) arg7 harg7 zeros2 inb_S2048x64_S2048x64_0_0 l
    have e7 := load_whole (F := F) (S := S2048x1) arg8 harg8 zeros2 inb_S2048x1_S2048x1_0_0 s
    sl_exec (disch := first | sl_exact hc0 | sl_exact hc1)
    sl_step
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; rw [read_store_whole (S := S2048x64) _ _ zeros2]; try rfl
    isplitl [H3]
    · iexists _; isplitr; swap; · iexact H3
      ipureintro; rw [read_store_whole (S := S2048x64) _ _ zeros2]; try rfl
    isplitl [H4]
    · iexists _; isplitr; swap; · iexact H4
      ipureintro; rw [read_store_whole (S := S2048x8) _ _ zeros2]; try rfl
    isplitl [H5]
    · iexists _; isplitr; swap; · iexact H5
      ipureintro; rw [read_store_whole (S := S2048x8) _ _ zeros2]; try rfl
    isplitl [HS0]
    · iexists _; isplitr; swap; · iexact HS0
      ipureintro; rw [read_store_whole (S := S2048x64) _ _ zeros2]; try rfl
    · iexists _; isplitr; swap; · iexact HS1
      ipureintro; rw [read_store_whole (S := S2048x1) _ _ zeros2]; try rfl

end Cert.KernelIdeal.Hand

end
-- ==== Proof.Run.Last.lean ====
/-
  Point 8: the selection alone.
-/
module

public import proofs.«01_k».proof.Proof.Run.Middle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Point 8: the selection alone. The body's triple on whole buffers at named contents. -/
theorem runLast (c : Dev nD) (i : grid0.Coords) (arg1 : Memref sig .tc .vmem S2048x2048 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S2048x64 .f32) (harg4 : arg4.IsWhole)
    (arg5 : Memref sig .tc .vmem S2048x8 .f32) (harg5 : arg5.IsWhole) (arg6 : Memref sig .tc .vmem S2048x8 .i32) (harg6 : arg6.IsWhole) (arg7 : Memref sig .tc .vmem S2048x64 .f32) (harg7 : arg7.IsWhole) (arg8 : Memref sig .tc .vmem S2048x1 .f32) (harg8 : arg8.IsWhole)
    (hc0 : selects i) (hc1 : ¬ gates i)
    (x0 : Vec F S2048x2048 .f32) (x1 x2 x3 : Vec F S2048x64 .f32) (x4 : Vec F S2048x8 .f32) (x5 : Vec F S2048x8 .i32) (l : Vec F S2048x64 .f32) (s : Vec F S2048x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare l ∗ owns (c : Thread nD τ) arg8 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (selW l s) ∗ owns (c : Thread nD τ) arg6 fullShare (selIdx l) ∗ owns (c : Thread nD τ) arg7 fullShare l ∗ owns (c : Thread nD τ) arg8 fullShare s) -∗ K ⟨⟩))
      ⊢ wp frame (wpE (defs₀ (F := F)) Variants.none c none) E (cc0__router_body i arg1 harg1 arg2 harg2 arg3 harg3 arg4 harg4 arg5 harg5 arg6 harg6 arg7 harg7 arg8 harg8) K := by
    simp only [cc0__router_body_eq_skeleton]; unfold cc0__router_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    have e6 := load_whole (F := F) (S := S2048x64) arg7 harg7 zeros2 inb_S2048x64_S2048x64_0_0 l
    have e7 := load_whole (F := F) (S := S2048x1) arg8 harg8 zeros2 inb_S2048x1_S2048x1_0_0 s
    sl_exec (disch := first | sl_exact hc0 | sl_exact hc1)
    sl_step
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; rw [read_store_whole (S := S2048x8) _ _ zeros2]; try rfl
    isplitl [H5]
    · iexists _; isplitr; swap; · iexact H5
      ipureintro; rw [read_store_whole (S := S2048x8) _ _ zeros2]; try rfl
    isplitl [HS0]
    · iexists _; isplitr; swap; · iexact HS0
      ipureintro; exact harg7.read_unread _
    · iexists _; isplitr; swap; · iexact HS1
      ipureintro; exact harg8.read_unread _

end Cert.KernelIdeal.Hand

end
-- ==== Proof.Region.lean ====
/-
  The router's region, value by value: what the body leaves in each window at each point, what the two scratch
  buffers carry from one point to the next, the body obligation, and the launch's run.
-/
module

public import proofs.«01_k».proof.Proof.Run.Last
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- Window 0, an input, is never idle. -/
theorem live0 : ∀ t : Fin cfg0.N, cfg0.idle 0 (grid0.coords t) = false := fun _ => rfl
/-- Window 1, an input, is never idle. -/
theorem live1 : ∀ t : Fin cfg0.N, cfg0.idle 1 (grid0.coords t) = false := fun _ => rfl
/-- Window 2 is stored at every point before the last. -/
theorem live2 : ∀ t : Fin cfg0.N, t.val < 8 → cfg0.idle 2 (grid0.coords t) = false :=
  (by decide +kernel : ∀ t : Fin grid0.N, t.val < 8 → cfg0.idle 2 (grid0.coords t) = false)
/-- The last point stores nothing into window 2. -/
theorem idle2 : ∀ t : Fin cfg0.N, 8 ≤ t.val → cfg0.idle 2 (grid0.coords t) = true :=
  (by decide +kernel : ∀ t : Fin grid0.N, 8 ≤ t.val → cfg0.idle 2 (grid0.coords t) = true)
/-- The last point writes window 2 back. -/
theorem flush2_last : ∀ t : Fin cfg0.N, 8 ≤ t.val → win0_2.flush t = true :=
  (by decide +kernel : ∀ t : Fin grid0.N, 8 ≤ t.val → win0_2.flush t = true)
/-- Point 7 keeps the block of window 2 for the last point. -/
theorem flush2_seven : ∀ t : Fin cfg0.N, t.val = 7 → win0_2.flush t = false :=
  (by decide +kernel : ∀ t : Fin grid0.N, t.val = 7 → win0_2.flush t = false)
/-- Window 3 is stored at every point before the last. -/
theorem live3 : ∀ t : Fin cfg0.N, t.val < 8 → cfg0.idle 3 (grid0.coords t) = false :=
  (by decide +kernel : ∀ t : Fin grid0.N, t.val < 8 → cfg0.idle 3 (grid0.coords t) = false)
/-- The last point stores nothing into window 3. -/
theorem idle3 : ∀ t : Fin cfg0.N, 8 ≤ t.val → cfg0.idle 3 (grid0.coords t) = true :=
  (by decide +kernel : ∀ t : Fin grid0.N, 8 ≤ t.val → cfg0.idle 3 (grid0.coords t) = true)
/-- The last point writes window 3 back. -/
theorem flush3_last : ∀ t : Fin cfg0.N, 8 ≤ t.val → win0_3.flush t = true :=
  (by decide +kernel : ∀ t : Fin grid0.N, 8 ≤ t.val → win0_3.flush t = true)
/-- Point 7 keeps the block of window 3 for the last point. -/
theorem flush3_seven : ∀ t : Fin cfg0.N, t.val = 7 → win0_3.flush t = false :=
  (by decide +kernel : ∀ t : Fin grid0.N, t.val = 7 → win0_3.flush t = false)
/-- Window 4 is stored from point 1 on. -/
theorem live4 : ∀ t : Fin cfg0.N, 1 ≤ t.val → cfg0.idle 4 (grid0.coords t) = false :=
  (by decide +kernel : ∀ t : Fin grid0.N, 1 ≤ t.val → cfg0.idle 4 (grid0.coords t) = false)
/-- Point 0 stores nothing into window 4. -/
theorem idle4 : ∀ t : Fin cfg0.N, t.val = 0 → cfg0.idle 4 (grid0.coords t) = true :=
  (by decide +kernel : ∀ t : Fin grid0.N, t.val = 0 → cfg0.idle 4 (grid0.coords t) = true)
/-- Point 0 does not write window 4 back. -/
theorem flush4_first : ∀ t : Fin cfg0.N, t.val = 0 → win0_4.flush t = false :=
  (by decide +kernel : ∀ t : Fin grid0.N, t.val = 0 → win0_4.flush t = false)
/-- Window 5 is stored from point 1 on. -/
theorem live5 : ∀ t : Fin cfg0.N, 1 ≤ t.val → cfg0.idle 5 (grid0.coords t) = false :=
  (by decide +kernel : ∀ t : Fin grid0.N, 1 ≤ t.val → cfg0.idle 5 (grid0.coords t) = false)
/-- Point 0 stores nothing into window 5. -/
theorem idle5 : ∀ t : Fin cfg0.N, t.val = 0 → cfg0.idle 5 (grid0.coords t) = true :=
  (by decide +kernel : ∀ t : Fin grid0.N, t.val = 0 → cfg0.idle 5 (grid0.coords t) = true)
/-- Point 0 does not write window 5 back. -/
theorem flush5_first : ∀ t : Fin cfg0.N, t.val = 0 → win0_5.flush t = false :=
  (by decide +kernel : ∀ t : Fin grid0.N, t.val = 0 → win0_5.flush t = false)

/-- The point before `t` (point 0 at point 0). -/
def prev (t : Fin cfg0.N) : Fin cfg0.N := ⟨t.val - 1, Nat.lt_of_le_of_lt (Nat.sub_le _ _) t.isLt⟩

/-- The point whose gate filled the logits and softmax blocks held at `t`: `t` itself before point 8, the point
    before at point 8. -/
def gateAt (t : Fin cfg0.N) : Fin cfg0.N := if t.val < 8 then t else prev t

theorem gateAt_of_lt {t : Fin cfg0.N} (h : t.val < 8) : gateAt t = t := if_pos h

theorem gateAt_prev {t : Fin cfg0.N} (h : ¬ t.val < 8) : gateAt (prev t) = gateAt t := by
  have hN : t.val < 9 := lt_of_lt_of_eq t.isLt (show cfg0.N = 9 from N_0)
  rw [show gateAt t = prev t from if_neg h, gateAt_of_lt (show (prev t).val < 8 by show t.val - 1 < 8; omega)]

/-! ## The proof data -/

/-- The logits of the rows of point `t`'s block. -/
def lgt (c : Dev nD) (t : Fin cfg0.N) : FVec F S2048x64 .f32 := k0_pay2 (iblk m c 0 t) (iblk m c 1 t)
/-- The softmax of the rows of point `t`'s block. -/
def prb (c : Dev nD) (t : Fin cfg0.N) : FVec F S2048x64 .f32 := k0_pay5 (iblk m c 0 t) (iblk m c 1 t)
/-- The logits point `t` carries to the next point. -/
def carL (c : Dev nD) (t : Fin cfg0.N) : Vec F S2048x64 .f32 := k0_pay6 (iblk m c 0 t) (iblk m c 1 t)
/-- The softmax sums point `t` carries to the next point. -/
def carS (c : Dev nD) (t : Fin cfg0.N) : Vec F S2048x1 .f32 := k0_pay7 (iblk m c 0 t) (iblk m c 1 t)

/-- The invariant before position `n`: the scratch buffers at anything before the first point and after the last,
    in between at what the point before left. -/
def PhiS (c : Dev nD) : (n : ℕ) → n ≤ cfg0.N → sProp 𝕄
  | 0, _ => Pipeline.ΦA spec0 c
  | n + 1, h => if n < 8 then
      iprop(iprop(owns (c : Thread nD τ) scL fullShare (carL m c ⟨n, h⟩) ∗ owns (c : Thread nD τ) scS fullShare (carS m c ⟨n, h⟩)) ∗ (∃ r, prngReg c r))
    else Pipeline.ΦA spec0 c

theorem PhiS_zero (c : Dev nD) (n : ℕ) (h : n ≤ cfg0.N) (hz : n = 0) : PhiS m c n h = (Pipeline.ΦA spec0 c : sProp 𝕄) := by
  subst hz; rfl

theorem PhiS_succ (c : Dev nD) (n : ℕ) (h : n < cfg0.N) (hn : n < 8) : PhiS m c (n + 1) h
      = iprop(iprop(owns (c : Thread nD τ) scL fullShare (carL m c ⟨n, h⟩) ∗ owns (c : Thread nD τ) scS fullShare (carS m c ⟨n, h⟩)) ∗ (∃ r, prngReg c r)) :=
  if_pos hn

theorem PhiS_pos (c : Dev nD) (t : Fin cfg0.N) (h : 1 ≤ t.val) : PhiS m c t.val (Nat.le_of_lt t.isLt)
      = iprop(iprop(owns (c : Thread nD τ) scL fullShare (carL m c (prev t)) ∗ owns (c : Thread nD τ) scS fullShare (carS m c (prev t))) ∗ (∃ r, prngReg c r)) := by
  have hN : t.val < 9 := lt_of_lt_of_eq t.isLt (show cfg0.N = 9 from N_0)
  obtain ⟨n, hn⟩ := t
  cases n with
  | zero => exact absurd h (Nat.not_succ_le_zero 0)
  | succ k => exact PhiS_succ m c k (Nat.le_of_lt hn) (by have : k + 1 < 9 := hN; omega)

theorem PhiS_end (c : Dev nD) (n : ℕ) (h : n ≤ cfg0.N) (hn : 9 ≤ n) : PhiS m c n h = (Pipeline.ΦA spec0 c : sProp 𝕄) := by
  cases n with
  | zero => exact absurd hn (by decide)
  | succ k => exact if_neg (by omega)

/-- The proof data of the one pipeline on core `c`: the arrays as the region finds them; after the body at point `t` each
    input's buffer at its block, the logits and softmax windows at the gate's results for the block they are on, the weight and
    index windows at the selection over what the point before carried; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => lgt m c (gateAt t)
    | ⟨3, _⟩ => prb m c (gateAt t)
    | ⟨4, _⟩ => selW (carL m c (prev t)) (carS m c (prev t))
    | ⟨5, _⟩ => selIdx (carL m c (prev t))
  Φ t := PhiS m c t.val (Nat.le_of_lt_succ t.isLt)
  q _ := fullShare
  owed _ := 0

/-- The arrays are the region-entry contents. -/
theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

/-! What the body leaves, window by window. -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = lgt m c (gateAt t) := by dsimp only [dats]
theorem after3 (c : Dev nD) (t : Fin cfg0.N) : (dats m 0 c).after 3 t = prb m c (gateAt t) := by dsimp only [dats]
theorem after4 (c : Dev nD) (t : Fin cfg0.N) : (dats m 0 c).after 4 t = selW (carL m c (prev t)) (carS m c (prev t)) := by dsimp only [dats]
theorem after5 (c : Dev nD) (t : Fin cfg0.N) : (dats m 0 c).after 5 t = selIdx (carL m c (prev t)) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The last point finds in window 2 the logits block point 7 left there, which is the block it writes back. -/
theorem before2_last (c : Dev nD) (t : Fin cfg0.N) (h : ¬ t.val < 8) (d) : (dats m 0 c).before 2 t d = (dats m 0 c).after 2 t := by
  have hN : t.val < 9 := lt_of_lt_of_eq t.isLt (show cfg0.N = 9 from N_0)
  rw [Dat.before_of_pos _ 2 t (by omega) rfl d]
  rw [show (cfg0.win 2).flush ⟨t.val - 1, _⟩ = false from flush2_seven (prev t) (by show t.val - 1 = 7; omega), if_neg Bool.false_ne_true]
  unfold Dat.left
  rw [show cfg0.idle 2 (cfg0.grid.coords ⟨t.val - 1, _⟩) = false from live2 (prev t) (by show t.val - 1 < 8; omega)]
  show (dats m 0 c).after 2 (prev t) = _
  rw [after2, after2, gateAt_prev h]

/-- The last point finds in window 3 the softmax block point 7 left there, which is the block it writes back. -/
theorem before3_last (c : Dev nD) (t : Fin cfg0.N) (h : ¬ t.val < 8) (d) : (dats m 0 c).before 3 t d = (dats m 0 c).after 3 t := by
  have hN : t.val < 9 := lt_of_lt_of_eq t.isLt (show cfg0.N = 9 from N_0)
  rw [Dat.before_of_pos _ 3 t (by omega) rfl d]
  rw [show (cfg0.win 3).flush ⟨t.val - 1, _⟩ = false from flush3_seven (prev t) (by show t.val - 1 = 7; omega), if_neg Bool.false_ne_true]
  unfold Dat.left
  rw [show cfg0.idle 3 (cfg0.grid.coords ⟨t.val - 1, _⟩) = false from live3 (prev t) (by show t.val - 1 < 8; omega)]
  show (dats m 0 c).after 3 (prev t) = _
  rw [after3, after3, gateAt_prev h]

/-! ## The body obligation -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 2400000 in
/-- The body at any point: the inputs hold their blocks, the invariant names the scratch the selection reads, and the
    case's run gives back every buffer at what the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl,
    show (dats m 0 c).Φ t.succ = PhiS m c (t.val + 1) t.isLt from rfl]
  have hN : t.val < 9 := lt_of_lt_of_eq t.isLt (show cfg0.N = 9 from N_0)
  by_cases h0 : 1 ≤ t.val
  · by_cases h1 : t.val < 8
    · skip
      rw [show (dats m 0 c).leavesExact 0 t = owns (c : Thread nD τ) (st0_0 t) fullShare ((dats m 0 c).after 0 t) from by unfold Dat.leavesExact; rw [live0 t], after0]
      rw [show (dats m 0 c).leavesExact 1 t = owns (c : Thread nD τ) (st0_1 t) fullShare ((dats m 0 c).after 1 t) from by unfold Dat.leavesExact; rw [live1 t], after1]
      rw [show (dats m 0 c).leavesExact 2 t = owns (c : Thread nD τ) (st0_2 t) fullShare ((dats m 0 c).after 2 t) from by unfold Dat.leavesExact; rw [live2 t h1], after2, gateAt_of_lt h1]
      rw [show (dats m 0 c).leavesExact 3 t = owns (c : Thread nD τ) (st0_3 t) fullShare ((dats m 0 c).after 3 t) from by unfold Dat.leavesExact; rw [live3 t h1], after3, gateAt_of_lt h1]
      rw [show (dats m 0 c).leavesExact 4 t = owns (c : Thread nD τ) (st0_4 t) fullShare ((dats m 0 c).after 4 t) from by unfold Dat.leavesExact; rw [live4 t h0], after4]
      rw [show (dats m 0 c).leavesExact 5 t = owns (c : Thread nD τ) (st0_5 t) fullShare ((dats m 0 c).after 5 t) from by unfold Dat.leavesExact; rw [live5 t h0], after5]
      rw [Phi_castSucc m c t, PhiS_pos m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (runMiddle c (grid0.coords t) _ _ _ _ _ _ _ _ _ _ _ _ _ _ _ _ ((selects_iff t).mpr h0) ((gates_iff t).mpr h1) (iblk m c 0 t) (iblk m c 1 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · rw [PhiS_succ m c t.val t.isLt h1]
        isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · skip
      rw [show (dats m 0 c).leavesExact 0 t = owns (c : Thread nD τ) (st0_0 t) fullShare ((dats m 0 c).after 0 t) from by unfold Dat.leavesExact; rw [live0 t], after0]
      rw [show (dats m 0 c).leavesExact 1 t = owns (c : Thread nD τ) (st0_1 t) fullShare ((dats m 0 c).after 1 t) from by unfold Dat.leavesExact; rw [live1 t], after1]
      rw [show (dats m 0 c).leavesExact 2 t = owns (c : Thread nD τ) (st0_2 t) fullShare ((dats m 0 c).after 2 t) from by unfold Dat.leavesExact; rw [idle2 t (by omega), flush2_last t (by omega)]]
      rw [show (dats m 0 c).leavesExact 3 t = owns (c : Thread nD τ) (st0_3 t) fullShare ((dats m 0 c).after 3 t) from by unfold Dat.leavesExact; rw [idle3 t (by omega), flush3_last t (by omega)]]
      rw [show (dats m 0 c).leavesExact 4 t = owns (c : Thread nD τ) (st0_4 t) fullShare ((dats m 0 c).after 4 t) from by unfold Dat.leavesExact; rw [live4 t h0], after4]
      rw [show (dats m 0 c).leavesExact 5 t = owns (c : Thread nD τ) (st0_5 t) fullShare ((dats m 0 c).after 5 t) from by unfold Dat.leavesExact; rw [live5 t h0], after5]
      rw [Phi_castSucc m c t, PhiS_pos m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (runLast c (grid0.coords t) _ _ _ _ _ _ _ _ _ _ _ _ _ _ _ _ ((selects_iff t).mpr h0) (fun h => h1 ((gates_iff t).mp h)) (iblk m c 0 t) (iblk m c 1 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · rw [PhiS_end m c (t.val + 1) t.isLt (by omega), PhiA_eq]
        isplitl [HS0 HS1]
        · isplitl [HS0]
          · iexists _; iexact HS0
          iexists _; iexact HS1
        iexact Hg
      isplitl [Ho]; · iexact Ho
      isplitl [H0]; · iexact H0
      isplitl [H1]; · iexact H1
      isplitl [H2]; · rw [before2_last m c t (by omega)]; iexact H2
      isplitl [H3]; · rw [before3_last m c t (by omega)]; iexact H3
      isplitl [H4]; · iexact H4
      iexact H5
  · by_cases h1 : t.val < 8
    · skip
      rw [show (dats m 0 c).leavesExact 0 t = owns (c : Thread nD τ) (st0_0 t) fullShare ((dats m 0 c).after 0 t) from by unfold Dat.leavesExact; rw [live0 t], after0]
      rw [show (dats m 0 c).leavesExact 1 t = owns (c : Thread nD τ) (st0_1 t) fullShare ((dats m 0 c).after 1 t) from by unfold Dat.leavesExact; rw [live1 t], after1]
      rw [show (dats m 0 c).leavesExact 2 t = owns (c : Thread nD τ) (st0_2 t) fullShare ((dats m 0 c).after 2 t) from by unfold Dat.leavesExact; rw [live2 t h1], after2, gateAt_of_lt h1]
      rw [show (dats m 0 c).leavesExact 3 t = owns (c : Thread nD τ) (st0_3 t) fullShare ((dats m 0 c).after 3 t) from by unfold Dat.leavesExact; rw [live3 t h1], after3, gateAt_of_lt h1]
      rw [(dats m 0 c).leavesExact_idle 4 t (idle4 t (by omega)) (flush4_first t (by omega))]
      rw [(dats m 0 c).leavesExact_idle 5 t (idle5 t (by omega)) (flush5_first t (by omega))]
      rw [Phi_castSucc m c t, PhiS_zero m c _ _ (by omega), PhiA_eq]
      iintro ⟨⟨⟨⟨%l, HS0⟩, ⟨%s, HS1⟩⟩, Hg⟩, Ho, ⟨%d0, H0⟩, ⟨%d1, H1⟩, ⟨%d2, H2⟩, ⟨%d3, H3⟩, ⟨%d4, H4⟩, ⟨%d5, H5⟩⟩
      iapply (runFirst c (grid0.coords t) _ _ _ _ _ _ _ _ _ _ _ _ _ _ _ _ (fun h => h0 ((selects_iff t).mp h)) ((gates_iff t).mpr h1) (iblk m c 0 t) (iblk m c 1 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · rw [PhiS_succ m c t.val t.isLt h1]
        isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every weakly fair execution terminates; at every final state each window's array is what the write-backs of the
    proof data leave, every other buffer what the host lines after the region leave, and every semaphore counter is zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => (Entails.of_eq (PhiS_zero m c 0 (Nat.zero_le _) rfl).symm))
    (hout := fun c => (Entails.of_eq (PhiS_end m c cfg0.N (Nat.le_refl _) (le_of_eq N_0.symm))))

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Run.Bits.lean ====
/-
  The kernel's frame over machine words. The kernel and its idealization are printed from the same lines, and the
  idealized program's frame holds at any float values: at machine words it is the kernel's.
-/
module

public import proofs.«01_k».proof.Defs
public import proofs.«01_k».proof.Proof.Region
public import proofs.«01_k».proof.Proof.Gen.Kernel

@[expose] public section

set_option maxRecDepth 16384

noncomputable section

namespace Cert.Kernel.Hand

open Idealize.ShloMosaic Idealize.SL Idealize.SL.Sem

/-- The two programs' kernel bodies are the same. -/
theorem bodies_eq : Cert.Kernel.defs₀ (F := Bits) = Cert.KernelIdeal.defs₀ (F := Bits) := by
  unfold Cert.Kernel.defs₀ Cert.KernelIdeal.defs₀
  refine congrArg (Defs.onTc (Λ := Cert.KernelIdeal.Λ₀)) ?_
  funext l a
  match l, a with
  | 0, (t, s) => rfl

/-- So are their tables of bodies and regions. -/
theorem defs_eq : Cert.Kernel.defs (F := Bits) = Cert.KernelIdeal.defs (F := Bits) :=
  congrArg (Pipeline.defs (Cert.KernelIdeal.pcfgs (F := Bits))) bodies_eq

/-- Every execution of the kernel over machine words returns every semaphore counter to zero and leaves its arguments
    unchanged. -/
theorem frame : Cert.quiescent_Kernel := by
  intro m ρ _
  rw [defs_eq]
  exact Cert.KernelIdeal.Hand.frame (F := Bits) m ρ

end Cert.Kernel.Hand

end
-- ==== Proof.Value.Row.lean ====
/-
  One row of the router over the extended reals: its softmax, the order of its experts by a stable descending sort, and
  the eight rounds of "take the greatest, then mask it with −∞". Nothing here names a program.
-/
module

public import Idealize.ShloMosaic.Lib.Pointwise
public import Idealize.ShloMosaic.Lib.SortFacts

@[expose] public section

set_option maxRecDepth 16384

noncomputable section

namespace Cert.Router

open Idealize.ShloMosaic

/-! ## The softmax of a row -/

/-- The greatest logit of a row. -/
def rmax (L : Fin 64 → EReal) : EReal := Finset.univ.fold max ⊥ L
/-- The exponential of a logit below the greatest one. -/
def rexp (L : Fin 64 → EReal) (e : Fin 64) : EReal := Ideal.exp (L e - rmax L)
/-- The sum of a row's exponentials. -/
def rsum (L : Fin 64 → EReal) : EReal := ∑ e, rexp L e
/-- The softmax of a row. -/
def prob (L : Fin 64 → EReal) (e : Fin 64) : EReal := Ideal.div (rexp L e) (rsum L)

/-! ## The order of a row -/

/-- The expert in place `k` when a row is sorted stably, greatest first. -/
def rank (v : Fin 64 → EReal) : Fin 64 → Fin 64 :=
  sortedFrom fun a b => FloatOps.cmpfTotal (F := Ideal) (φ := .f32) .gt (v a) (v b) == 1#1

/-- The sort's comparison of two places is the order of the extended reals. -/
theorem gt_bit (x y : EReal) : (FloatOps.cmpfTotal (F := Ideal) (φ := .f32) .gt x y == 1#1) = decide (y < x) := by
  show (BitVec.ofBool (decide (y < x)) == 1#1) = decide (y < x)
  by_cases h : y < x <;> simp [h]

/-- A later place holds no greater value. -/
theorem rank_sorted (v : Fin 64 → EReal) {i j : Fin 64} (h : i < j) : v (rank v j) ≤ v (rank v i) := by
  have e := sortedFrom_noInversion (fun a b => decide (v b < v a))
    (fun a b => FloatOps.cmpfTotal (F := Ideal) (φ := .f32) .gt (v a) (v b) == 1#1)
    (fun a b hab => by rw [gt_bit] at hab; simpa using (of_decide_eq_true hab).le)
    (fun a b hab => by rw [gt_bit]; exact hab)
    (fun a b c hab hbc => by
      simp only [decide_eq_false_iff_not, not_lt] at *
      exact le_trans hab hbc) i j h
  exact not_lt.mp (of_decide_eq_false e)

/-- No two places hold one expert. -/
theorem rank_injective (v : Fin 64 → EReal) : Function.Injective (rank v) := sortedFrom_injective _

/-- Every expert has a place. -/
theorem rank_surjective (v : Fin 64 → EReal) : Function.Surjective (rank v) := sortedFrom_surjective _

/-- Two rows whose values stand in the same order are sorted alike. -/
theorem rank_congr (v w : Fin 64 → EReal) (h : ∀ a b, v a < v b ↔ w a < w b) : rank v = rank w :=
  sortedFrom_congr _ _ fun a b _ => by rw [gt_bit, gt_bit]; exact decide_eq_decide.mpr (h b a)

/-- What the precondition says of a row: its nine greatest logits strictly descend, and the first eight are below +∞. -/
structure Strict (L : Fin 64 → EReal) : Prop where
  /-- Each of the first eight places holds more than the place after it. -/
  desc : ∀ (j : ℕ) (h : j < 8), L (rank L ⟨j + 1, by omega⟩) < L (rank L ⟨j, by omega⟩)
  /-- The first eight places hold less than +∞. -/
  below : ∀ (j : ℕ) (h : j < 8), L (rank L ⟨j, by omega⟩) < ⊤

variable {L : Fin 64 → EReal}

/-- One of the first eight places holds more than every later place. -/
theorem Strict.lt (hL : Strict L) {j : ℕ} (h : j < 8) {i : Fin 64} (hi : j < i.val) :
    L (rank L i) < L (rank L ⟨j, by omega⟩) := by
  refine lt_of_le_of_lt ?_ (hL.desc j h)
  rcases Nat.lt_or_ge (j + 1) i.val with h1 | h1
  · exact rank_sorted L (show (⟨j + 1, by omega⟩ : Fin 64) < i from h1)
  · exact le_of_eq (congrArg (fun k => L (rank L k)) (Fin.ext (by show i.val = j + 1; omega)))

/-- The first eight places hold more than −∞. -/
theorem Strict.above (hL : Strict L) {j : ℕ} (h : j < 8) : ⊥ < L (rank L ⟨j, by omega⟩) :=
  lt_of_le_of_lt bot_le (hL.desc j h)

/-- The first place holds the greatest logit. -/
theorem le_first (e : Fin 64) : L e ≤ L (rank L 0) := by
  obtain ⟨i, rfl⟩ := rank_surjective L e
  rcases Nat.eq_zero_or_pos i.val with h | h
  · exact le_of_eq (congrArg (fun k => L (rank L k)) (Fin.ext h))
  · exact rank_sorted L (show (0 : Fin 64) < i from h)

/-- The greatest logit is the first place's. -/
theorem rmax_eq : rmax L = L (rank L 0) := by
  unfold rmax
  apply le_antisymm
  · exact Finset.fold_max_le _ |>.mpr ⟨bot_le, fun e _ => le_first e⟩
  · exact Finset.le_fold_max _ |>.mpr (Or.inr ⟨_, Finset.mem_univ _, le_rfl⟩)

/-- The greatest logit of a strict row is a real number. -/
theorem Strict.rmax_real (hL : Strict L) : ∃ μ : ℝ, rmax L = (μ : EReal) := by
  rw [rmax_eq]
  have h0 := hL.above (j := 0) (by omega)
  have h1 := hL.below 0 (by omega)
  exact ⟨(L (rank L 0)).toReal, (EReal.coe_toReal h1.ne h0.ne').symm⟩

/-- Every logit of a strict row is below +∞. -/
theorem Strict.lt_top (hL : Strict L) (e : Fin 64) : L e < ⊤ := lt_of_le_of_lt (le_first e) (hL.below 0 (by omega))

/-! ## The softmax keeps the order -/

/-- Below +∞, the exponential of a difference to a real number is a nonnegative real number. -/
theorem exp_sub_real {x : EReal} (hx : x < ⊤) (μ : ℝ) : ∃ w : ℝ, 0 ≤ w ∧ Ideal.exp (x - (μ : EReal)) = (w : EReal) := by
  induction x using EReal.rec with
  | bot => exact ⟨0, le_rfl, by rw [EReal.bot_sub]; rfl⟩
  | top => exact absurd hx (lt_irrefl _)
  | coe r => exact ⟨Real.exp (r - μ), (Real.exp_pos _).le, by rw [← EReal.coe_sub]; rfl⟩

/-- Below +∞, that exponential strictly increases. -/
theorem exp_sub_lt {x y : EReal} (hy : y < ⊤) (μ : ℝ) (h : x < y) :
    Ideal.exp (x - (μ : EReal)) < Ideal.exp (y - (μ : EReal)) := by
  induction y using EReal.rec with
  | bot => exact absurd h not_lt_bot
  | top => exact absurd hy (lt_irrefl _)
  | coe s =>
    rw [← EReal.coe_sub]
    induction x using EReal.rec with
    | bot => rw [EReal.bot_sub]; exact EReal.coe_lt_coe_iff.mpr (Real.exp_pos _)
    | top => exact absurd (h.trans hy) (lt_irrefl _)
    | coe r =>
      rw [← EReal.coe_sub]
      exact EReal.coe_lt_coe_iff.mpr (Real.exp_lt_exp.mpr (by have := EReal.coe_lt_coe_iff.mp h; linarith))

/-- The sum of a strict row's exponentials is a positive real number. -/
theorem Strict.rsum_real (hL : Strict L) : ∃ s : ℝ, 0 < s ∧ rsum L = (s : EReal) := by
  obtain ⟨μ, hμ⟩ := hL.rmax_real
  choose w hw0 hw using fun e => exp_sub_real (hL.lt_top e) μ
  have hr : ∀ e, rexp L e = (w e : EReal) := fun e => by unfold rexp; rw [hμ]; exact hw e
  refine ⟨∑ e, w e, ?_, ?_⟩
  · refine Finset.sum_pos' (fun e _ => hw0 e) ⟨rank L 0, Finset.mem_univ _, ?_⟩
    have h : (⊥ : EReal) < L (rank L 0) := hL.above (j := 0) (by omega)
    have := exp_sub_lt (hL.lt_top (rank L 0)) μ h
    rw [hw, EReal.bot_sub] at this
    exact EReal.coe_lt_coe_iff.mp this
  · unfold rsum
    rw [Finset.sum_congr rfl fun e _ => hr e]
    exact (map_sum (⟨⟨fun r : ℝ => (r : EReal), rfl⟩, fun a b => EReal.coe_add a b⟩ : ℝ →+ EReal) w Finset.univ).symm

/-- Division by a positive real number keeps the strict order. -/
theorem div_lt_div {x y : EReal} {s : ℝ} (hs : 0 < s) {a b : ℝ} (hx : x = (a : EReal)) (hy : y = (b : EReal)) (h : x < y) :
    Ideal.div x (s : EReal) < Ideal.div y (s : EReal) := by
  subst hx hy
  unfold Ideal.div
  rw [if_neg (by exact_mod_cast hs.ne'), if_neg (by exact_mod_cast hs.ne'), ← EReal.coe_inv, ← EReal.coe_mul, ← EReal.coe_mul]
  exact EReal.coe_lt_coe_iff.mpr (mul_lt_mul_of_pos_right (EReal.coe_lt_coe_iff.mp h) (inv_pos.mpr hs))

/-- The softmax of a strict row stands in the order of its logits. -/
theorem Strict.prob_lt_iff (hL : Strict L) (a b : Fin 64) : prob L a < prob L b ↔ L a < L b := by
  obtain ⟨μ, hμ⟩ := hL.rmax_real
  obtain ⟨s, hs, hse⟩ := hL.rsum_real
  have key : ∀ a b, L a < L b → prob L a < prob L b := fun a b h => by
    obtain ⟨wa, _, ha⟩ := exp_sub_real (hL.lt_top a) μ
    obtain ⟨wb, _, hb⟩ := exp_sub_real (hL.lt_top b) μ
    unfold prob rexp
    rw [hse, hμ]
    exact div_lt_div hs ha hb (exp_sub_lt (hL.lt_top b) μ h)
  refine ⟨fun h => ?_, key a b⟩
  rcases lt_trichotomy (L a) (L b) with h' | h' | h'
  · exact h'
  · exact absurd (by unfold prob rexp at h; rw [h'] at h; exact h) (lt_irrefl _)
  · exact absurd (h.trans (key b a h')) (lt_irrefl _)

/-- Sorting a strict row by its softmax sorts it by its logits. -/
theorem Strict.rank_prob (hL : Strict L) : rank (prob L) = rank L := rank_congr _ _ hL.prob_lt_iff

/-! ## The rounds of the selection -/

/-- The row after `n` rounds: the first `n` places masked with −∞. -/
def work (L : Fin 64 → EReal) (n : ℕ) (e : Fin 64) : EReal :=
  open Classical in if ∃ k : Fin 64, k.val < n ∧ rank L k = e then ⊥ else L e

/-- Before the first round nothing is masked. -/
theorem work_zero (e : Fin 64) : work L 0 e = L e := if_neg fun ⟨_, h, _⟩ => Nat.not_lt_zero _ h

/-- Round `n` masks the expert of place `n`. -/
theorem work_succ (n : ℕ) (hn : n < 64) (e : Fin 64) :
    work L (n + 1) e = if e = rank L ⟨n, hn⟩ then ⊥ else work L n e := by
  unfold work
  by_cases h : e = rank L ⟨n, hn⟩
  · rw [if_pos h, if_pos ⟨⟨n, hn⟩, Nat.lt_succ_self n, h.symm⟩]
  · rw [if_neg h]
    refine if_congr ⟨fun ⟨k, hk, e'⟩ => ⟨k, ?_, e'⟩, fun ⟨k, hk, e'⟩ => ⟨k, Nat.lt_succ_of_lt hk, e'⟩⟩ rfl rfl
    rcases Nat.lt_or_ge k.val n with h1 | h1
    · exact h1
    · exact absurd (by rw [← e']; exact congrArg (rank L) (Fin.ext (by show k.val = n; omega))) h

/-- In round `n` of a strict row the expert of place `n` beats every other. -/
theorem Strict.work_lt (hL : Strict L) {n : ℕ} (hn : n < 8) (q : Fin 64) (hq : q ≠ rank L ⟨n, by omega⟩) :
    work L n q < work L n (rank L ⟨n, by omega⟩) := by
  have hp : work L n (rank L ⟨n, by omega⟩) = L (rank L ⟨n, by omega⟩) :=
    if_neg fun ⟨k, hk, e⟩ => absurd (congrArg Fin.val (rank_injective L e)) (by show k.val ≠ n; omega)
  rw [hp]
  obtain ⟨i, rfl⟩ := rank_surjective L q
  unfold work
  split
  · exact hL.above hn
  · rename_i h
    refine hL.lt hn ?_
    rcases Nat.lt_trichotomy i.val n with h1 | h1 | h1
    · exact absurd ⟨i, h1, rfl⟩ h
    · exact absurd (congrArg (rank L) (Fin.ext h1)) hq
    · exact h1

/-! ## The arg-max reduction of a row -/

/-- The arg-max along the second axis of a matrix is the column that beats every other. -/
theorem argMax_row {A B : ℕ} {t : Shape} (h : (⟨2, ![A, B]⟩ : Shape).Reduces [1] t) (x : (⟨2, ![A, B]⟩ : Shape).Idx → EReal)
    (j : t.Idx) (r : Fin A) (hr : ∀ i, h.drop i = j ↔ ∃ k : Fin B, ix2 r k = i) (p : Fin B)
    (hp : ∀ q, q ≠ p → x (ix2 r q) < x (ix2 r p)) :
    Ideal.reduceIndex .argMax 1 h x j = BitVec.ofNat 32 p.val := by
  have hp' : ∀ q, x (ix2 r q) ≤ x (ix2 r p) := fun q => by
    by_cases e : q = p
    · rw [e]
    · exact (hp q e).le
  have hmem : ∀ i, i ∈ (Finset.univ.filter (fun i => h.drop i = j)) ↔ ∃ k : Fin B, ix2 r k = i := fun i => by
    rw [Finset.mem_filter]; exact ⟨fun a => (hr i).mp a.2, fun a => ⟨Finset.mem_univ _, (hr i).mpr a⟩⟩
  unfold Ideal.reduceIndex
  simp only [↓reduceIte]
  have hext : (Finset.filter (fun i => ∀ i' ∈ Finset.univ.filter (fun i => h.drop i = j), ¬ x i < x i')
      (Finset.univ.filter (fun i => h.drop i = j))) = {ix2 r p} := by
    ext i
    rw [Finset.mem_filter, hmem, Finset.mem_singleton]
    constructor
    · rintro ⟨⟨k, rfl⟩, hk⟩
      by_cases e : k = p
      · rw [e]
      · exact absurd (hp k e) (hk _ ((hmem _).mpr ⟨p, rfl⟩))
    · rintro rfl
      refine ⟨⟨p, rfl⟩, fun i' hi' => ?_⟩
      obtain ⟨k, rfl⟩ := (hmem _).mp hi'
      exact not_lt.mpr (hp' k)
  congr 1
  convert_to ((({ix2 r p} : Finset _).image fun i : (⟨2, ![A, B]⟩ : Shape).Idx => (i 1).val).min.getD 0) = p.val
  · congr 3
  · rw [Finset.image_singleton, Finset.min_singleton]; rfl

/-- Place `j`'s weight: its probability over the sum of the first eight and the small constant. -/
def weight (L : Fin 64 → EReal) (j : Fin 8) : EReal :=
  Ideal.div (prob L (rank L ⟨j.val, by omega⟩))
    ((∑ k : Fin 8, prob L (rank L ⟨k.val, by omega⟩)) + Ideal.ofBits .f32 0x358637BD#32)

/-- The index of the expert of place `j`, as a word. -/
def place (L : Fin 64 → EReal) (j : Fin 8) : BitVec 32 := BitVec.ofNat 32 (rank L ⟨j.val, by omega⟩).val

end Cert.Router

end
-- ==== Proof.Value.Rounds.lean ====
/-
  The kernel's eight selection rounds on one row of a block of logits, over the extended reals: on a strict row round
  `n` picks the expert of place `n`, and the eight index columns are the first eight places.
-/
module

public import proofs.«01_k».proof.Proof.Value.Row
public import proofs.«01_k».proof.Proof.Run.Setup

@[expose] public section

set_option maxRecDepth 16384

noncomputable section

namespace Cert.KernelIdeal.Hand

open Cert.KernelIdeal Cert.KernelIdeal.Gen Cert.Router
open Idealize.ShloMosaic

/-- The printed pattern of negative infinity is the extended reals' −∞. -/
theorem ofBits_negInf : Ideal.ofBits .f32 0xFF800000#32 = (⊥ : EReal) := by
  simp [Ideal.ofBits, Ideal.ieee]

/-- One round's pick: each row's arg-max, as a column. -/
def pick (w : FVec Ideal S2048x64 .f32) : IVec S2048x1 32 :=
  shapeCast S2048x1 (reduceIndex .argMax 1 S2048 w reduces_S2048x64_S2048) shapeCasts_S2048_S2048x1

/-- One round's mask: each row's picked element replaced by −∞. -/
def masked (w : FVec Ideal S2048x64 .f32) (p : IVec S2048x1 32) : FVec Ideal S2048x64 .f32 :=
  select (cmpi .eq (iota .tc S2048x64 32 [1] iota_S2048x64_d1_w32) (broadcastTo S2048x64 p broadcasts_S2048x1_S2048x64))
    (broadcast S2048x64 (Scalar.ofBits .f32 0xFF800000#32)) w

/-- The index column `k` set to a pick, the other columns kept. -/
def column (k : BitVec 32) (p : IVec S2048x1 32) (v : IVec S2048x8 32) : IVec S2048x8 32 :=
  select (cmpi .eq (iota .tc S2048x8 32 [1] iota_S2048x8_d1_w32) (broadcast S2048x8 k))
    (broadcastTo S2048x8 (shapeCast S2048x1 p shapeCasts_S2048x1_S2048x1) broadcasts_S2048x1_S2048x8) v

variable {l w : FVec Ideal S2048x64 .f32} {L : Fin 64 → EReal} {r : Fin 2048} {n : ℕ}

/-- A pick of a strict row in round `n` is the expert of place `n`. -/
theorem pick_apply (hL : Strict L) (hn : n < 8) (hw : ∀ e, w (ix2 r e) = work L n e) (z : Fin 1) :
    pick w (ix2 r z) = BitVec.ofNat 32 (rank L ⟨n, by omega⟩).val := by
  unfold pick
  pointwise
  refine argMax_row _ w _ r (fun i => ?_) _ fun q hq => ?_
  · exact Shape.ReducesTo.fiber_r2_a1 ⟨reduces_S2048x64_S2048.1, reduces_S2048x64_S2048.2.2⟩ _ i
  · rw [hw, hw]; exact hL.work_lt hn q hq

/-- A column word equals an expert's word exactly when it is that expert. -/
theorem word_eq_iff (a b : Fin 64) : (BitVec.ofNat 32 a.val = BitVec.ofNat 32 b.val) ↔ a = b := by
  constructor
  · intro h
    have := congrArg BitVec.toNat h
    simp only [BitVec.toNat_ofNat] at this
    exact Fin.ext (by omega)
  · rintro rfl; rfl

/-- The mask of round `n` leaves the row of round `n + 1`. -/
theorem masked_apply (hn : n < 8) (hw : ∀ e, w (ix2 r e) = work L n e) {p : IVec S2048x1 32}
    (hp : p (ix2 r 0) = BitVec.ofNat 32 (rank L ⟨n, by omega⟩).val) (e : Fin 64) :
    masked w p (ix2 r e) = work L (n + 1) e := by
  unfold masked
  pointwise
  rw [hp, hw, work_succ n (by omega), ofBits_negInf]
  unfold Scalar.select
  exact if_congr (IntOp.cmpi_eq.trans (word_eq_iff _ _)) rfl rfl

/-- The column operation at an element. -/
theorem column_apply (k : Fin 8) (p : IVec S2048x1 32) (v : IVec S2048x8 32) (j : Fin 8) :
    column (BitVec.ofNat 32 k.val) p v (ix2 r j) = if j = k then p (ix2 r 0) else v (ix2 r j) := by
  unfold column
  pointwise
  unfold Scalar.select
  refine if_congr (IntOp.cmpi_eq.trans ⟨fun h => ?_, fun h => by rw [h]⟩) rfl rfl
  have := congrArg BitVec.toNat h
  simp only [BitVec.toNat_ofNat] at this
  exact Fin.ext (by omega)

/-- Each round's row and the pick it makes, from the row before. -/
def roundRow (l : FVec Ideal S2048x64 .f32) : ℕ → FVec Ideal S2048x64 .f32
  | 0 => l
  | n + 1 => masked (roundRow l n) (pick (roundRow l n))

/-- The index columns after the first `n` rounds. -/
def columns (l : FVec Ideal S2048x64 .f32) : ℕ → IVec S2048x8 32
  | 0 => broadcast S2048x8 0#32
  | n + 1 => column (BitVec.ofNat 32 n) (pick (roundRow l n)) (columns l n)

/-- The kernel's stored indices are the columns after eight rounds. -/
theorem selIdx_eq (l : Vec Ideal S2048x64 .f32) : selIdx (F := Ideal) l = columns l 8 := rfl

/-- Round `n` of a strict row works on the row with its first `n` places masked. -/
theorem roundRow_apply (hL : Strict L) (hl : ∀ e, l (ix2 r e) = L e) :
    ∀ n, n ≤ 8 → ∀ e, roundRow l n (ix2 r e) = work L n e
  | 0, _, e => (hl e).trans (work_zero e).symm
  | n + 1, hn, e => masked_apply (by omega) (roundRow_apply hL hl n (by omega))
      (pick_apply hL (by omega) (roundRow_apply hL hl n (by omega)) 0) e

/-- After `n` rounds the first `n` index columns of a strict row hold its first `n` places. -/
theorem columns_apply (hL : Strict L) (hl : ∀ e, l (ix2 r e) = L e) (j : Fin 8) :
    ∀ n, n ≤ 8 → j.val < n → columns l n (ix2 r j) = BitVec.ofNat 32 (rank L ⟨j.val, by omega⟩).val
  | 0, _, h => absurd h (Nat.not_lt_zero _)
  | n + 1, hn, h => by
    unfold columns
    refine (column_apply ⟨n, by omega⟩ _ _ j).trans ?_
    by_cases e : j = ⟨n, by omega⟩
    · rw [if_pos e, pick_apply hL (by omega) (roundRow_apply hL hl n (by omega)) 0]
      exact congrArg (fun k => BitVec.ofNat 32 (rank L k).val) (Fin.ext (congrArg Fin.val e).symm)
    · rw [if_neg e]
      refine columns_apply hL hl j n (by omega) ?_
      have : j.val ≠ n := fun h' => e (Fin.ext h')
      omega

/-- The kernel's eight indices of a strict row are its first eight places. -/
theorem selIdx_apply (hL : Strict L) (hl : ∀ e, l (ix2 r e) = L e) (j : Fin 8) :
    selIdx (F := Ideal) l (ix2 r j) = BitVec.ofNat 32 (rank L ⟨j.val, by omega⟩).val := by
  rw [selIdx_eq]; exact columns_apply hL hl j 8 le_rfl j.isLt

/-- The logits at eight given indices, gathered on 128 lanes. -/
def gathered (l : FVec Ideal S2048x64 .f32) (d : IVec S2048x8 32) : FVec Ideal S2048x8 .f32 :=
  let y : FVec Ideal S2048x128 .f32 := concatenate S2048x128 1 [⟨S2048x64, l⟩, ⟨S2048x64, broadcast S2048x64 (Scalar.ofBits (F := Ideal) .f32 0x00000000#32)⟩]
    concatenates_S2048x64_S2048x64_S2048x128_d1
  let x : IVec S2048x128 32 := concatenate S2048x128 1 [⟨S2048x8, d⟩, ⟨S2048x120, broadcast S2048x120 0#32⟩] concatenates_S2048x8_S2048x120_S2048x128_d1
  extractStridedSlice S2048x8 ![0, 0] (dynamicGather 1 y
    (shapeCast S2048x128 (shapeCast S2048x128x1 (select (cmpi .slt x (broadcast S2048x128 0#32)) (addi x (broadcast S2048x128 128#32)) x)
      shapeCasts_S2048x128_S2048x128x1) shapeCasts_S2048x128x1_S2048x128)) slices_S2048x128_o0_0_S2048x8

/-- An index below 64 needs no fixing up. -/
theorem fixup_word (q : Fin 64) :
    Scalar.select (IntOp.cmpi .slt (BitVec.ofNat 32 q.val) 0#32) (IntOp.addi (BitVec.ofNat 32 q.val) 128#32)
      (BitVec.ofNat 32 q.val) = BitVec.ofNat 32 q.val := by
  revert q; decide +kernel

/-- A logit gathered at an index below 64. -/
theorem gathered_apply (l : FVec Ideal S2048x64 .f32) (d : IVec S2048x8 32) (j : Fin 8) (q : Fin 64)
    (hd : d (ix2 r j) = BitVec.ofNat 32 q.val) : gathered l d (ix2 r j) = l (ix2 r q) := by
  pointwise [gathered]
  simp only [hd, fixup_word]
  have hq := q.isLt
  have hm : (BitVec.ofNat 32 q.val).toNat % 128 = q.val := by
    rw [BitVec.toNat_ofNat]; omega
  rw [dif_pos (hm.trans_lt hq)]
  exact congrArg (fun k => l (ix2 r k)) (Fin.ext hm)

/-- The weights from the eight gathered logits and the softmax sums. -/
def weigh (g : FVec Ideal S2048x8 .f32) (s : FVec Ideal S2048x1 .f32) : FVec Ideal S2048x8 .f32 :=
  let p := divf (exp (subf g (broadcastTo S2048x8 (extractStridedSlice S2048x1 ![0, 0] g slices_S2048x8_o0_0_S2048x1)
    broadcasts_S2048x1_S2048x8))) (broadcastTo S2048x8 s broadcasts_S2048x1_S2048x8)
  divf p (broadcastTo S2048x8 (addf (shapeCast S2048x1
    (multiReduction .add [1] S2048 p 0x00000000#32 reduces_S2048x8_S2048 (.inl rfl) rfl) shapeCasts_S2048_S2048x1)
    (broadcast S2048x1 (Scalar.ofBits .f32 0x358637BD#32))) broadcasts_S2048x1_S2048x8)

/-- The kernel's stored weights are the weights of the gathered logits. -/
theorem selW_eq (l : Vec Ideal S2048x64 .f32) (s : Vec Ideal S2048x1 .f32) :
    selW (F := Ideal) l s = weigh (gathered l (selIdx (F := Ideal) l)) s := rfl

/-- The weights at an index. -/
theorem weigh_apply (g : FVec Ideal S2048x8 .f32) (s : FVec Ideal S2048x1 .f32) (j : Fin 8) :
    weigh g s (ix2 r j) = Ideal.div (Ideal.div (Ideal.exp (g (ix2 r j) - g (ix2 r 0))) (s (ix2 r 0)))
      ((∑ k, Ideal.div (Ideal.exp (g (ix2 r k) - g (ix2 r 0))) (s (ix2 r 0))) + Ideal.ofBits .f32 0x358637BD#32) := by
  pointwise [weigh]

/-- The kernel's weights of a strict row: its first eight probabilities over their sum and the small constant. -/
theorem selW_apply {s : Vec Ideal S2048x1 .f32} (hL : Strict L) (hl : ∀ e, l (ix2 r e) = L e) (hs : s (ix2 r 0) = rsum L) (j : Fin 8) :
    selW (F := Ideal) l s (ix2 r j) = weight L j := by
  rw [selW_eq, weigh_apply]
  simp only [fun k => (gathered_apply l _ k _ (selIdx_apply hL hl k)).trans (hl _), hs]
  unfold weight prob rexp
  rw [rmax_eq]
  rfl

end Cert.KernelIdeal.Hand

end
-- ==== Proof.Value.Spec.lean ====
/-
  The five results as functions of the two argument arrays, and the stable top-k of a row read through its ranking.
-/
module

public import proofs.«01_k».proof.Proof.Value.Row

@[expose] public section

set_option maxRecDepth 16384

noncomputable section

namespace Cert.Router

open Idealize.ShloMosaic

/-- One row of logits: row `r` of `x` against each column of `w`. -/
def logitRow {n : ℕ} (x : (⟨2, ![n, 2048]⟩ : Shape).Idx → EReal) (w : (⟨2, ![2048, 64]⟩ : Shape).Idx → EReal) (r : Fin n)
    (e : Fin 64) : EReal := ∑ k : Fin 2048, x (ix2 r k) * w (ix2 k e)

/-- The tokens as rows: four batches of 4096. -/
def flat (x : (⟨3, ![4, 4096, 2048]⟩ : Shape).Idx → EReal) : (⟨2, ![16384, 2048]⟩ : Shape).Idx → EReal :=
  shapeCast ⟨2, ![16384, 2048]⟩ x (by decide +kernel)

/-- The router matrix with one column to an expert. -/
def gates (w : (⟨2, ![64, 2048]⟩ : Shape).Idx → EReal) : (⟨2, ![2048, 64]⟩ : Shape).Idx → EReal :=
  transpose ⟨2, ![2048, 64]⟩ [1, 0] w (by decide +kernel)

/-- The logits of token `r`. -/
def logits (x : (⟨3, ![4, 4096, 2048]⟩ : Shape).Idx → EReal) (w : (⟨2, ![64, 2048]⟩ : Shape).Idx → EReal) (r : Fin 16384) :
    Fin 64 → EReal := logitRow (flat x) (gates w) r

/-- Moving along the second axis changes the second coordinate. -/
theorem along_ix2 {a b : ℕ} (r : Fin a) (e k : Fin b) :
    Shape.Idx.along (s := ⟨2, ![a, b]⟩) (ix2 r e) 1 k = ix2 r k := by
  funext i; match i with
  | ⟨0, _⟩ => rfl
  | ⟨1, _⟩ => rfl

/-- Moving along the second axis, spelt with the axis' bound. -/
theorem along_row {a b : ℕ} (r : Fin a) (e : Fin b) (h : 1 < (⟨2, ![a, b]⟩ : Shape).rank)
    (k : Fin ((⟨2, ![a, b]⟩ : Shape).size ⟨1, h⟩)) :
    Shape.Idx.along (s := ⟨2, ![a, b]⟩) (ix2 r e) ⟨1, h⟩ k = ix2 r k := along_ix2 r e k

variable {A n : ℕ} (x : (⟨2, ![A, 64]⟩ : Shape).Idx → EReal) (h : (⟨2, ![A, 64]⟩ : Shape).Slices (fun _ => 0) ⟨2, ![A, n]⟩)
  (r : Fin A) (j : Fin n) (hj : j.val < 64) {L : Fin 64 → EReal} (hx : ∀ e, x (ix2 r e) = L e)

/-- The first columns of an array, at an index. -/
theorem firstColumns_apply {α : Type} (f : (⟨2, ![A, 64]⟩ : Shape).Idx → α) :
    extractStridedSlice ⟨2, ![A, n]⟩ (fun _ => 0) f h (ix2 r j) = f (ix2 r ⟨j.val, hj⟩) := by
  unfold extractStridedSlice
  refine congrArg f (funext fun i => ?_)
  match i with
  | ⟨0, _⟩ => exact Fin.ext (Nat.zero_add _)
  | ⟨1, _⟩ => exact Fin.ext (Nat.zero_add _)

include hx in
/-- The `j`-th value of a row's top-k is the row's value at its `j`-th place. -/
theorem topK_value : (Host.topK ⟨2, ![A, n]⟩ 1 (FloatOps.cmpfTotal (F := Ideal) (φ := .f32) .gt) x h).1 (ix2 r j) = L (rank L ⟨j.val, hj⟩) := by
  obtain rfl : (fun e => x (ix2 r e)) = L := funext hx
  unfold Host.topK Host.sort2
  dsimp only
  simp only [Nat.one_lt_two, ↓reduceDIte]
  refine (firstColumns_apply h r j hj _).trans ?_
  simp only [along_row]
  rfl

include hx in
/-- The `j`-th index of a row's top-k is its `j`-th place. -/
theorem topK_index : (Host.topK ⟨2, ![A, n]⟩ 1 (FloatOps.cmpfTotal (F := Ideal) (φ := .f32) .gt) x h).2 (ix2 r j)
    = BitVec.ofNat 32 (rank L ⟨j.val, hj⟩).val := by
  obtain rfl : (fun e => x (ix2 r e)) = L := funext hx
  unfold Host.topK Host.sort2
  dsimp only
  simp only [Nat.one_lt_two, ↓reduceDIte]
  refine (firstColumns_apply h r j hj _).trans ?_
  simp only [along_row]
  rfl

/-! ## The results -/

/-- Every token's logits. -/
def resLogits (x : (⟨3, ![4, 4096, 2048]⟩ : Shape).Idx → EReal) (w : (⟨2, ![64, 2048]⟩ : Shape).Idx → EReal)
    (i : (⟨2, ![16384, 64]⟩ : Shape).Idx) : EReal := logits x w (i 0) (i 1)
/-- Every token's probabilities. -/
def resProbs (x : (⟨3, ![4, 4096, 2048]⟩ : Shape).Idx → EReal) (w : (⟨2, ![64, 2048]⟩ : Shape).Idx → EReal)
    (i : (⟨2, ![16384, 64]⟩ : Shape).Idx) : EReal := prob (logits x w (i 0)) (i 1)
/-- Every token's eight weights. -/
def resWeights (x : (⟨3, ![4, 4096, 2048]⟩ : Shape).Idx → EReal) (w : (⟨2, ![64, 2048]⟩ : Shape).Idx → EReal)
    (i : (⟨2, ![16384, 8]⟩ : Shape).Idx) : EReal := weight (logits x w (i 0)) (i 1)
/-- Every token's eight indices. -/
def resPlaces (x : (⟨3, ![4, 4096, 2048]⟩ : Shape).Idx → EReal) (w : (⟨2, ![64, 2048]⟩ : Shape).Idx → EReal)
    (i : (⟨2, ![16384, 8]⟩ : Shape).Idx) : BitVec 32 := place (logits x w (i 0)) (i 1)

end Cert.Router

end
-- ==== Proof.Value.Gate.lean ====
/-
  The gate's arithmetic at an index: each logit a sum of products, each row's softmax, and the row sums it carries.
-/
module

public import proofs.«01_k».proof.Proof.Value.Rounds
public import proofs.«01_k».proof.Proof.Value.Spec

@[expose] public section

set_option maxRecDepth 16384

noncomputable section

namespace Cert.KernelIdeal.Hand

open Cert.KernelIdeal Cert.KernelIdeal.Gen Cert.Router
open Idealize.ShloMosaic Idealize.ShloMosaic.TcCoe
open Idealize.SL Idealize.SL.Sem

variable (x : Vec Ideal S2048x2048 .f32) (w : Vec Ideal S2048x64 .f32) (r : Fin 2048)

/-- A logit of the block. -/
theorem logit_apply (e : Fin 64) : k0_pay2 (F := Ideal) x w (ix2 r e) = logitRow x w r e := by
  unfold logitRow
  pointwise [k0_pay2]

/-- The exponential of a logit less its row's greatest. -/
theorem exp_apply (e : Fin 64) : k0_pay3 (F := Ideal) x w (ix2 r e) = rexp (logitRow x w r) e := by
  unfold rexp rmax
  pointwise [k0_pay3, logit_apply, ofBits_negInf]

/-- The sum of a row's exponentials. -/
theorem sum_apply : k0_pay4 (F := Ideal) x w (ix2 r 0) = rsum (logitRow x w r) := by
  unfold rsum
  pointwise [k0_pay4, exp_apply]

/-- A probability of the block. -/
theorem prob_apply (e : Fin 64) : k0_pay5 (F := Ideal) x w (ix2 r e) = prob (logitRow x w r) e := by
  unfold prob
  pointwise [k0_pay5, exp_apply, sum_apply]

/-- The carried logits are the logits. -/
theorem carried_logit_apply (e : Fin 64) : k0_pay6 (F := Ideal) x w (ix2 r e) = logitRow x w r e := by
  pointwise [k0_pay6, logit_apply]

/-- The carried sums are the sums. -/
theorem carried_sum_apply : k0_pay7 (F := Ideal) x w (ix2 r 0) = rsum (logitRow x w r) := by
  pointwise [k0_pay7, sum_apply]

end Cert.KernelIdeal.Hand

end
-- ==== Proof.Value.Arrays.lean ====
/-
  The four result arrays after the run, whole: every row's logits and probabilities, its eight weights and indices.
-/
module

public import proofs.«01_k».proof.Proof.Value.Gate
public import proofs.«01_k».proof.Proof.Region
public import Idealize.ShloMosaic.Lib.Pipeline.ValueKit

@[expose] public section

set_option maxRecDepth 16384

noncomputable section

namespace Cert.KernelIdeal.Hand

open Cert.KernelIdeal Cert.KernelIdeal.Gen Cert.Router
open Idealize.ShloMosaic Idealize.ShloMosaic.TcCoe
open Idealize.SL Idealize.SL.Sem
open Idealize.ShloMosaic.Pipeline (Dat Cfg Window)

variable (m : (ℓ : Loc nD τ sig) → Buf (Elt Ideal) ℓ) (c : Dev nD)

/-! ## Which block each window is on -/

/-- The input rows' window is on the block of the point whose gate runs. -/
theorem index0 : ∀ t : Fin cfg0.N, win0_0.index t = ![(gateAt t).val, 0] :=
  (by decide +kernel : ∀ t : Fin grid0.N, win0_0.index t = ![(gateAt t).val, 0])
/-- The router matrix's window is on its one block. -/
theorem index1 : ∀ t : Fin cfg0.N, win0_1.index t = ![0, 0] :=
  (by decide +kernel : ∀ t : Fin grid0.N, win0_1.index t = ![0, 0])
/-- The logits' window is on the block of the point whose gate filled it. -/
theorem index2 : ∀ t : Fin cfg0.N, win0_2.index t = ![(gateAt t).val, 0] :=
  (by decide +kernel : ∀ t : Fin grid0.N, win0_2.index t = ![(gateAt t).val, 0])
/-- The probabilities' window is on the block of the point whose gate filled it. -/
theorem index3 : ∀ t : Fin cfg0.N, win0_3.index t = ![(gateAt t).val, 0] :=
  (by decide +kernel : ∀ t : Fin grid0.N, win0_3.index t = ![(gateAt t).val, 0])
/-- The weights' window is on the block of the point before. -/
theorem index4 : ∀ t : Fin cfg0.N, win0_4.index t = ![(gateAt (prev t)).val, 0] :=
  (by decide +kernel : ∀ t : Fin grid0.N, win0_4.index t = ![(gateAt (prev t)).val, 0])
/-- The indices' window is on the block of the point before. -/
theorem index5 : ∀ t : Fin cfg0.N, win0_5.index t = ![(gateAt (prev t)).val, 0] :=
  (by decide +kernel : ∀ t : Fin grid0.N, win0_5.index t = ![(gateAt (prev t)).val, 0])
/-- Taking the gate's point twice is taking it once. -/
theorem gateAt_gateAt : ∀ t : Fin cfg0.N, gateAt (gateAt t) = gateAt t :=
  (by decide +kernel : ∀ t : Fin grid0.N, gateAt (gateAt t) = gateAt t)
/-- There are eight blocks. -/
theorem gateAt_lt : ∀ t : Fin cfg0.N, (gateAt t).val < 8 :=
  (by decide +kernel : ∀ t : Fin grid0.N, (gateAt t).val < 8)

/-! ## The input blocks at coordinates -/

/-- The rows the region reads. -/
def rowsIn : (⟨2, ![16384, 2048]⟩ : Shape).Idx → EReal := V m c main_v0
/-- The router matrix the region reads. -/
def routerIn : (⟨2, ![2048, 64]⟩ : Shape).Idx → EReal := V m c main_v1
/-- The logits of row `r`. -/
def logitsIn (r : Fin 16384) : Fin 64 → EReal := logitRow (rowsIn m c) (routerIn m c) r

/-- The array's row of a block's row. -/
def rowOf (t : Fin cfg0.N) (a : Fin 2048) : Fin 16384 := ⟨(gateAt t).val * 2048 + a.val, by have := gateAt_lt t; omega⟩

/-- The block of rows at a point, at an index. -/
theorem rows_apply (t : Fin cfg0.N) (a k : Fin 2048) :
    (iblk m c 0 t : (⟨2, ![2048, 2048]⟩ : Shape).Idx → EReal) (ix2 a k) = rowsIn m c (ix2 (rowOf t a) k) := by
  unfold rowsIn rowOf
  blk_simp [iblk]
  congr 1
  blk_ext [index0]

/-- The router matrix's block, at an index. -/
theorem router_apply (t : Fin cfg0.N) (k : Fin 2048) (e : Fin 64) :
    (iblk m c 1 t : (⟨2, ![2048, 64]⟩ : Shape).Idx → EReal) (ix2 k e) = routerIn m c (ix2 k e) := by
  unfold routerIn
  blk_simp [iblk]
  congr 1
  blk_ext [index1]

/-- A block's row of logits is the array's. -/
theorem logitRow_blk (t : Fin cfg0.N) (a : Fin 2048) :
    logitRow (iblk m c 0 t) (iblk m c 1 t) a = logitsIn m c (rowOf t a) := by
  funext e
  unfold logitsIn logitRow
  exact Finset.sum_congr rfl fun k _ => by rw [rows_apply, router_apply]

/-! ## The arrays -/

/-- The carried logits of a row. -/
theorem carL_apply (t : Fin cfg0.N) (a : Fin 2048) (e : Fin 64) :
    carL m c t (ix2 a e) = logitsIn m c (rowOf t a) e :=
  (carried_logit_apply _ _ a e).trans (congrFun (logitRow_blk m c t a) e)

/-- The carried sum of a row. -/
theorem carS_apply (t : Fin cfg0.N) (a : Fin 2048) : carS m c t (ix2 a 0) = rsum (logitsIn m c (rowOf t a)) :=
  (carried_sum_apply _ _ a).trans (congrArg rsum (logitRow_blk m c t a))

/-- A row's place in the array, in the block the gate's point writes. -/
theorem rowOf_gateAt (t : Fin cfg0.N) (a : Fin 2048) : rowOf (gateAt t) a = rowOf t a :=
  Fin.ext (congrArg (fun s : Fin cfg0.N => s.val * 2048 + a.val) (gateAt_gateAt t))

/-- Every row's logits, as one array. -/
def logitsArr (i : (⟨2, ![16384, 64]⟩ : Shape).Idx) : EReal := logitsIn m c (i 0) (i 1)
/-- Every row's probabilities, as one array. -/
def probsArr (i : (⟨2, ![16384, 64]⟩ : Shape).Idx) : EReal := prob (logitsIn m c (i 0)) (i 1)
/-- Every row's weights, as one array. -/
def weightsArr (i : (⟨2, ![16384, 8]⟩ : Shape).Idx) : EReal := weight (logitsIn m c (i 0)) (i 1)
/-- Every row's indices, as one array. -/
def indicesArr (i : (⟨2, ![16384, 8]⟩ : Shape).Idx) : BitVec 32 := place (logitsIn m c (i 0)) (i 1)

/-- Where the logits' block lies in the array. -/
theorem emb2 (t : Fin cfg0.N) (a : Fin 2048) (e : Fin 64) :
    ((win0_2.blk t).view.emb (ix2 a e) : (⟨2, ![16384, 64]⟩ : Shape).Idx) = ix2 (rowOf t a) e := by
  unfold rowOf; blk_ext [index2]
/-- Where the probabilities' block lies in the array. -/
theorem emb3 (t : Fin cfg0.N) (a : Fin 2048) (e : Fin 64) :
    ((win0_3.blk t).view.emb (ix2 a e) : (⟨2, ![16384, 64]⟩ : Shape).Idx) = ix2 (rowOf t a) e := by
  unfold rowOf; blk_ext [index3]
/-- Where the weights' block lies in the array. -/
theorem emb4 (t : Fin cfg0.N) (a : Fin 2048) (e : Fin 8) :
    ((win0_4.blk t).view.emb (ix2 a e) : (⟨2, ![16384, 8]⟩ : Shape).Idx) = ix2 (rowOf (prev t) a) e := by
  unfold rowOf; blk_ext [index4]
/-- Where the indices' block lies in the array. -/
theorem emb5 (t : Fin cfg0.N) (a : Fin 2048) (e : Fin 8) :
    ((win0_5.blk t).view.emb (ix2 a e) : (⟨2, ![16384, 8]⟩ : Shape).Idx) = ix2 (rowOf (prev t) a) e := by
  unfold rowOf; blk_ext [index5]

/-- The logits written back at a point are the array's. -/
theorem flushed_logits (t : Fin cfg0.N) (y : (⟨2, ![2048, 64]⟩ : Shape).Idx) :
    lgt m c (gateAt t) y = logitsArr m c ((win0_2.blk t).view.emb y) := by
  obtain ⟨a, e, rfl⟩ : ∃ a e, y = ix2 a e := ⟨_, _, eq_ix2 y⟩
  rw [emb2]
  refine (logit_apply _ _ a e).trans ?_
  rw [logitRow_blk, rowOf_gateAt]; rfl

/-- The probabilities written back at a point are the array's. -/
theorem flushed_probs (t : Fin cfg0.N) (y : (⟨2, ![2048, 64]⟩ : Shape).Idx) :
    prb m c (gateAt t) y = probsArr m c ((win0_3.blk t).view.emb y) := by
  obtain ⟨a, e, rfl⟩ : ∃ a e, y = ix2 a e := ⟨_, _, eq_ix2 y⟩
  rw [emb3]
  refine (prob_apply _ _ a e).trans ?_
  rw [logitRow_blk, rowOf_gateAt]; rfl

/-- The weights written back at a point are the array's. -/
theorem flushed_weights (hS : ∀ r, Strict (logitsIn m c r)) (t : Fin cfg0.N) (y : (⟨2, ![2048, 8]⟩ : Shape).Idx) :
    selW (F := Ideal) (carL m c (prev t)) (carS m c (prev t)) y = weightsArr m c ((win0_4.blk t).view.emb y) := by
  obtain ⟨a, e, rfl⟩ : ∃ a e, y = ix2 a e := ⟨_, _, eq_ix2 y⟩
  rw [emb4]
  exact selW_apply (hS _) (carL_apply m c _ _) (carS_apply m c _ _) e

/-- The indices written back at a point are the array's. -/
theorem flushed_indices (hS : ∀ r, Strict (logitsIn m c r)) (t : Fin cfg0.N) (y : (⟨2, ![2048, 8]⟩ : Shape).Idx) :
    selIdx (F := Ideal) (carL m c (prev t)) y = indicesArr m c ((win0_5.blk t).view.emb y) := by
  obtain ⟨a, e, rfl⟩ : ∃ a e, y = ix2 a e := ⟨_, _, eq_ix2 y⟩
  rw [emb5]
  exact selIdx_apply (hS _) (carL_apply m c _ _) e

/-- The logits' array after the run. -/
theorem final_logits : (dats m 0 c).arrAt 2 cfg0.N = logitsArr m c := by
  refine (dats m 0 c).arrAt_eq_of_covers 2 _ (by decide +kernel) fun t hf y => ?_
  blk_simp
  rw [after2]
  exact flushed_logits m c t y

/-- The probabilities' array after the run. -/
theorem final_probs : (dats m 0 c).arrAt 3 cfg0.N = probsArr m c := by
  refine (dats m 0 c).arrAt_eq_of_covers 3 _ (by decide +kernel) fun t hf y => ?_
  blk_simp
  rw [after3]
  exact flushed_probs m c t y

/-- The weights' array after the run, every row strict. -/
theorem final_weights (hS : ∀ r, Strict (logitsIn m c r)) : (dats m 0 c).arrAt 4 cfg0.N = weightsArr m c := by
  refine (dats m 0 c).arrAt_eq_of_covers 4 _ (by decide +kernel) fun t hf y => ?_
  blk_simp
  rw [after4]
  exact flushed_weights m c hS t y

/-- The indices' array after the run, every row strict. -/
theorem final_indices (hS : ∀ r, Strict (logitsIn m c r)) : (dats m 0 c).arrAt 5 cfg0.N = indicesArr m c := by
  refine (dats m 0 c).arrAt_eq_of_covers 5 _ (by decide +kernel) fun t hf y => ?_
  blk_simp
  rw [after5]
  exact flushed_indices m c hS t y

end Cert.KernelIdeal.Hand

end
-- ==== Proof.Value.Kernel.lean ====
/-
  The idealized kernel's five results after the run, as functions of its two argument arrays.
-/
module

public import proofs.«01_k».proof.Proof.Value.Arrays
public import Idealize.ShloMosaic.Lib.StableHlo.Run

@[expose] public section

set_option maxRecDepth 16384

noncomputable section

namespace Cert.KernelIdeal.Hand

open Cert.KernelIdeal Cert.KernelIdeal.Gen Cert.Router
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

/-- The tokens as launched. -/
def tokens : (⟨3, ![4, 4096, 2048]⟩ : Shape).Idx → EReal := m ((c.tc : Thread nD τ).loc main_arg0)
/-- The router matrix as launched. -/
def router : (⟨2, ![64, 2048]⟩ : Shape).Idx → EReal := m ((c.tc : Thread nD τ).loc main_arg1)

/-- The region reads the tokens as rows. -/
theorem rowsIn_eq : rowsIn m c = flat (tokens m c) := by
  unfold rowsIn
  show after hostOps0 _ (Proc.devRef .tc main_v0) = _
  simp only [hostOps0]
  after_results
  rfl

/-- The region reads the router matrix transposed. -/
theorem routerIn_eq : routerIn m c = Cert.Router.gates (router m c) := by
  unfold routerIn
  show after hostOps0 _ (Proc.devRef .tc main_v1) = _
  simp only [hostOps0]
  after_results
  rfl

/-- The logits the region computes are the arguments'. -/
theorem logitsIn_eq : logitsIn m c = logits (tokens m c) (router m c) := by
  funext r
  unfold logitsIn logits
  rw [rowsIn_eq, routerIn_eq]

/-- The weights' result: the weights' array with its rows in batches. -/
theorem tail_v3 : Pipeline.afterTail₀ cfgs (dats m) 0 (V0 m) [hostOps1] c main_v3
    = shapeCast S4x4096x8 ((dats m 0 c).arrAt 4 cfg0.N : (⟨2, ![16384, 8]⟩ : Shape).Idx → EReal) shapeCasts_S16384x8_S4x4096x8 := by
  unfold Pipeline.afterTail₀
  simp only [hostOps1, List.flatten_cons, List.flatten_nil, List.append_nil]
  after_results
  exact congrArg (fun y => shapeCast S4x4096x8 y shapeCasts_S16384x8_S4x4096x8)
    (Pipeline.withArrays_arr spec0 (by decide) c (V0 m c) (fun w => (dats m 0 c).arrAt w cfg0.N) 4)

/-- The indices' result: the indices' array with its rows in batches. -/
theorem tail_v4 : Pipeline.afterTail₀ cfgs (dats m) 0 (V0 m) [hostOps1] c main_v4
    = shapeCast S4x4096x8 ((dats m 0 c).arrAt 5 cfg0.N : (⟨2, ![16384, 8]⟩ : Shape).Idx → BitVec 32) shapeCasts_S16384x8_S4x4096x8 := by
  unfold Pipeline.afterTail₀
  simp only [hostOps1, List.flatten_cons, List.flatten_nil, List.append_nil]
  after_results
  exact congrArg (fun y => shapeCast S4x4096x8 y shapeCasts_S16384x8_S4x4096x8)
    (Pipeline.withArrays_arr spec0 (by decide) c (V0 m c) (fun w => (dats m 0 c).arrAt w cfg0.N) 5)

/-- The constant result. -/
theorem tail_cst : Pipeline.afterTail₀ cfgs (dats m) 0 (V0 m) [hostOps1] c main_cst = constant (F := Ideal) S_ .f32 0x00000000#32 := by
  unfold Pipeline.afterTail₀
  simp only [hostOps1, List.flatten_cons, List.flatten_nil, List.append_nil]
  after_results

/-- Every weakly fair execution terminates, every row strict, with the five results at the functions of the arguments
    and the arguments unchanged. -/
theorem run_values (hS : ∀ c r, Strict (logits (tokens m c) (router m c) r)) :
    θ_run defs (onTc (τ := τ) (main (F := Ideal))) ⟨m, fun _ => 0, ρ⟩ fun r => ∀ c : Dev nD,
      r.2.mem ((c.tc : Thread nD τ).loc main_v3) = shapeCast S4x4096x8 (resWeights (tokens m c) (router m c)) shapeCasts_S16384x8_S4x4096x8
      ∧ r.2.mem ((c.tc : Thread nD τ).loc main_v4) = shapeCast S4x4096x8 (resPlaces (tokens m c) (router m c)) shapeCasts_S16384x8_S4x4096x8
      ∧ r.2.mem ((c.tc : Thread nD τ).loc main_v2_0) = resLogits (tokens m c) (router m c)
      ∧ r.2.mem ((c.tc : Thread nD τ).loc main_v2_1) = resProbs (tokens m c) (router m c)
      ∧ r.2.mem ((c.tc : Thread nD τ).loc main_cst) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_main m ρ)
  have hS' : ∀ r, Strict (logitsIn m c r) := fun r => by rw [logitsIn_eq]; exact hS c r
  have hl : logitsArr m c = resLogits (tokens m c) (router m c) := by
    funext i; unfold logitsArr resLogits; rw [logitsIn_eq]
  have hp : probsArr m c = resProbs (tokens m c) (router m c) := by
    funext i; unfold probsArr resProbs; rw [logitsIn_eq]
  have hw : weightsArr m c = resWeights (tokens m c) (router m c) := by
    funext i; unfold weightsArr resWeights; rw [logitsIn_eq]
  have hi : indicesArr m c = resPlaces (tokens m c) (router m c) := by
    funext i; unfold indicesArr resPlaces; rw [logitsIn_eq]
  have hrest := fun b hb => (h.1 c).2 b hb
  refine ⟨?_, ?_, ?_, ?_, ?_, ?_, ?_⟩
  · refine (hrest main_v3 (Pipeline.mem_restRefs_of main_v3 (by decide) (by decide))).trans ((tail_v3 m c).trans ?_)
    exact congrArg (fun y => shapeCast S4x4096x8 y shapeCasts_S16384x8_S4x4096x8) ((final_weights m c hS').trans hw)
  · refine (hrest main_v4 (Pipeline.mem_restRefs_of main_v4 (by decide) (by decide))).trans ((tail_v4 m c).trans ?_)
    exact congrArg (fun y => shapeCast S4x4096x8 y shapeCasts_S16384x8_S4x4096x8) ((final_indices m c hS').trans hi)
  · exact ((h.1 c).1 2).trans ((final_logits m c).trans hl)
  · exact ((h.1 c).1 3).trans ((final_probs m c).trans hp)
  · exact (hrest main_cst (Pipeline.mem_restRefs_of main_cst (by decide) (by decide))).trans (tail_cst m c)
  · exact (hrest main_arg0 (Pipeline.mem_restRefs_of main_arg0 (by decide) (by decide))).trans (W_main_arg0 m (dats m) c)
  · exact (hrest main_arg1 (Pipeline.mem_restRefs_of main_arg1 (by decide) (by decide))).trans (W_main_arg1 m (dats m) c)

end Cert.KernelIdeal.Hand

end
-- ==== Proof.Value.Reference.lean ====
/-
  The idealized reference's values at an index: its logits, softmax, top-k and weights, row by row.
-/
module

public import proofs.«01_k».proof.Proof.Value.Spec
public import proofs.«01_k».proof.Proof.Gen.ReferenceIdeal.Run
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read Cert.Router
open Idealize.ShloMosaic Idealize.ShloMosaic.TcCoe
open Idealize.SL Idealize.SL.Sem

variable (x : (⟨3, ![4, 4096, 2048]⟩ : Shape).Idx → EReal) (w : (⟨2, ![64, 2048]⟩ : Shape).Idx → EReal) (r : Fin 16384)

/-- The printed pattern of negative infinity is the extended reals' −∞. -/
theorem ofBits_negInf : Ideal.ofBits .f32 0xFF800000#32 = (⊥ : EReal) := by
  simp [Ideal.ofBits, Ideal.ieee]

/-- The reference's logits. -/
theorem v2_apply (e : Fin 64) : val_main_v2 (F := Ideal) x w (ix2 r e) = logits x w r e := by
  unfold logits logitRow flat Cert.Router.gates
  pointwise [val_main_v2, val_main_v0, val_main_v1]

/-- The reference's row maxima. -/
theorem v3_apply : val_main_v3 (F := Ideal) x w (ix1 r) = rmax (logits x w r) := by
  unfold rmax
  pointwise [val_main_v3, val_main_cst, v2_apply, ofBits_negInf]

/-- The reference's exponentials. -/
theorem v9_apply (e : Fin 64) : val_main_v9 (F := Ideal) x w (ix2 r e) = rexp (logits x w r) e := by
  unfold rexp
  pointwise [val_main_v9, val_main_v8, val_main_v7, val_main_v6, val_main_v5, val_main_v4, val_main_cst_0, v3_apply, v2_apply, ofBits_negInf]
  rw [max_eq_right bot_le]

/-- The reference's row sums. -/
theorem v10_apply : val_main_v10 (F := Ideal) x w (ix1 r) = rsum (logits x w r) := by
  unfold rsum
  pointwise [val_main_v10, val_main_cst_1, v9_apply]

/-- The reference's probabilities. -/
theorem v13_apply (e : Fin 64) : val_main_v13 (F := Ideal) x w (ix2 r e) = prob (logits x w r) e := by
  unfold prob
  pointwise [val_main_v13, val_main_v12, val_main_v11, v10_apply, v9_apply]

variable {x w r}

/-- The reference's top probabilities of a strict row, in its logits' order. -/
theorem values_apply (hS : Strict (logits x w r)) (j : Fin 8) :
    val_main_values (F := Ideal) x w (ix2 r j) = prob (logits x w r) (rank (logits x w r) ⟨j.val, by omega⟩) := by
  unfold val_main_values
  refine (topK_value _ _ r j (by omega) (v13_apply x w r)).trans ?_
  rw [hS.rank_prob]

/-- The reference's top indices of a strict row, in its logits' order. -/
theorem indices_apply (hS : Strict (logits x w r)) (j : Fin 8) :
    val_main_indices (F := Ideal) x w (ix2 r j) = place (logits x w r) j := by
  unfold val_main_indices place
  refine (topK_index _ _ r j (by omega) (v13_apply x w r)).trans ?_
  rw [hS.rank_prob]

/-- The reference's weights of a strict row. -/
theorem v19_apply (hS : Strict (logits x w r)) (j : Fin 8) :
    val_main_v19 (F := Ideal) x w (ix2 r j) = weight (logits x w r) j := by
  unfold weight
  have hv := values_apply hS
  pointwise [val_main_v19, val_main_v18, val_main_v17, val_main_v16, val_main_cst_3, val_main_v15, val_main_v14, val_main_cst_2]
  simp only [hv]

/-- The reference's array of logits. -/
theorem v2_eq (x : (⟨3, ![4, 4096, 2048]⟩ : Shape).Idx → EReal) (w : (⟨2, ![64, 2048]⟩ : Shape).Idx → EReal) :
    val_main_v2 (F := Ideal) x w = resLogits x w := by
  funext i
  rw [eq_ix2 i]
  exact v2_apply x w (i 0) (i 1)

/-- The reference's array of probabilities. -/
theorem v13_eq (x : (⟨3, ![4, 4096, 2048]⟩ : Shape).Idx → EReal) (w : (⟨2, ![64, 2048]⟩ : Shape).Idx → EReal) :
    val_main_v13 (F := Ideal) x w = resProbs x w := by
  funext i
  rw [eq_ix2 i]
  exact v13_apply x w (i 0) (i 1)

/-- The reference's array of weights, when every row is strict. -/
theorem v20_eq (hS : ∀ r, Strict (logits x w r)) :
    val_main_v20 (F := Ideal) x w = shapeCast S4x4096x8 (resWeights x w) shapeCasts_S16384x8_S4x4096x8 := by
  have h : val_main_v19 (F := Ideal) x w = resWeights x w := by
    funext i
    rw [eq_ix2 i]
    exact v19_apply (hS (i 0)) (i 1)
  unfold val_main_v20
  rw [h]

/-- The reference's array of places, when every row is strict. -/
theorem v21_eq (hS : ∀ r, Strict (logits x w r)) :
    val_main_v21 (F := Ideal) x w = shapeCast S4x4096x8 (resPlaces x w) shapeCasts_S16384x8_S4x4096x8 := by
  have h : val_main_indices (F := Ideal) x w = resPlaces x w := by
    funext i
    rw [eq_ix2 i]
    exact indices_apply (hS (i 0)) (i 1)
  unfold val_main_v21
  rw [h]

/-- Every execution of the idealized reference returns every semaphore counter to zero and leaves its arguments unchanged. -/
theorem frame (m : (ℓ : Loc nD τ sig) → Buf (Elt Ideal) ℓ) (ρ : Dev nD → PrngReg) :
    θ_run defs (onTc (τ := τ) (main (F := Ideal))) ⟨m, fun _ => 0, ρ⟩ fun s =>
      (∀ c : Dev nD, s.2.mem ((c.tc : Thread nD τ).loc main_arg0) = m ((c.tc : Thread nD τ).loc main_arg0)
        ∧ s.2.mem ((c.tc : Thread nD τ).loc main_arg1) = m ((c.tc : Thread nD τ).loc main_arg1))
      ∧ s.2.sem = fun _ => 0 :=
  (θ_run defs _ _).mono (fun s h => ⟨fun c => (h c).2.2.2.2.2, sem_eq_zero_of_no_sems (by decide) s.2⟩)
    (Cert.ReferenceIdeal.Value.run (F := Ideal) m ρ)

set_option maxHeartbeats 2000000 in
/-- The idealized reference's results when every row of logits is strict. -/
theorem run_values (m : (ℓ : Loc nD τ sig) → Buf (Elt Ideal) ℓ) (ρ : Dev nD → PrngReg)
    (hS : ∀ (c : Dev nD) (r : Fin 16384), Strict (logits (m ((c.tc : Thread nD τ).loc main_arg0))
      (m ((c.tc : Thread nD τ).loc main_arg1)) r)) :
    θ_run defs (onTc (τ := τ) (main (F := Ideal))) ⟨m, fun _ => 0, ρ⟩ fun s => ∀ c : Dev nD,
      s.2.mem ((c.tc : Thread nD τ).loc main_v20) = shapeCast S4x4096x8
          (resWeights (m ((c.tc : Thread nD τ).loc main_arg0)) (m ((c.tc : Thread nD τ).loc main_arg1))) shapeCasts_S16384x8_S4x4096x8
      ∧ s.2.mem ((c.tc : Thread nD τ).loc main_v21) = shapeCast S4x4096x8
          (resPlaces (m ((c.tc : Thread nD τ).loc main_arg0)) (m ((c.tc : Thread nD τ).loc main_arg1))) shapeCasts_S16384x8_S4x4096x8
      ∧ s.2.mem ((c.tc : Thread nD τ).loc main_v2)
          = resLogits (m ((c.tc : Thread nD τ).loc main_arg0)) (m ((c.tc : Thread nD τ).loc main_arg1))
      ∧ s.2.mem ((c.tc : Thread nD τ).loc main_v13)
          = resProbs (m ((c.tc : Thread nD τ).loc main_arg0)) (m ((c.tc : Thread nD τ).loc main_arg1))
      ∧ s.2.mem ((c.tc : Thread nD τ).loc main_cst_4) = constant (F := Ideal) S_ .f32 0x00000000#32
      ∧ s.2.mem ((c.tc : Thread nD τ).loc main_arg0) = m ((c.tc : Thread nD τ).loc main_arg0)
      ∧ s.2.mem ((c.tc : Thread nD τ).loc main_arg1) = m ((c.tc : Thread nD τ).loc main_arg1) := by
  refine (θ_run defs _ _).mono (fun s h c => ?_) (Cert.ReferenceIdeal.Value.run (F := Ideal) m ρ)
  obtain ⟨h0, h1, h2, h3, h4, ha⟩ := h c
  exact ⟨h0.trans ((val_main_v20_eq m c).trans (v20_eq (hS c))), h1.trans ((val_main_v21_eq _ _).trans (v21_eq (hS c))),
    h2.trans ((val_main_v2_eq _ _).trans (v2_eq _ _)), h3.trans ((val_main_v13_eq _ _).trans (v13_eq _ _)), h4, ha⟩

end Cert.ReferenceIdeal.Hand

end
-- ==== Proof.Value.Pre.lean ====
/-
  What the precondition says of each row of logits: its nine greatest descend strictly, the first eight below +∞.
-/
module

public import proofs.«01_k».proof.Proof.Value.Spec
public import proofs.«01_k».proof.Proof.Gen.Pre_top_strict

@[expose] public section

set_option maxRecDepth 16384

noncomputable section

namespace Cert.Router

open Idealize.ShloMosaic Idealize.ShloMosaic.TcCoe
open Idealize.SL Idealize.SL.Sem
open Cert.Pre_top_strict Cert.Pre_top_strict.Gen

variable (x : (⟨3, ![4, 4096, 2048]⟩ : Shape).Idx → EReal) (w : (⟨2, ![64, 2048]⟩ : Shape).Idx → EReal)

/-- The printed pattern of infinity is the extended reals' +∞. -/
theorem ofBits_posInf : Ideal.ofBits .f32 0x7F800000#32 = (⊤ : EReal) := by
  simp [Ideal.ofBits, Ideal.ieee]

/-- Where the precondition holds, every row of logits is strict. -/
theorem strict_of_pre (h : Cert.Pre_top_strict.fn (F := Ideal) x w = fun _ => 1#1) (r : Fin 16384) :
    Strict (logits x w r) := by
  have hx (e : Fin 64) : Host.dotGeneral (F := Ideal) (φ₁ := .f32) (φ₂ := .f32) dot_S16384x2048_S2048x64_S16384x64_1_0_0_1_n_n none
      (shapeCast (α := Ideal .f32) S16384x2048 x shapeCasts_S4x4096x2048_S16384x2048)
      (transpose (α := Ideal .f32) S2048x64 [1, 0] w transposes_S64x2048_S2048x64_1_0) (ix2 r e) = logits x w r e := by
    unfold logits logitRow flat gates
    pointwise []
  have key (j : Fin 8) := congrFun h (ix2 r j)
  unfold Cert.Pre_top_strict.fn at key
  dsimp only at key
  generalize Host.dotGeneral (F := Ideal) (φ₁ := .f32) (φ₂ := .f32) dot_S16384x2048_S2048x64_S16384x64_1_0_0_1_n_n none
      (shapeCast (α := Ideal .f32) S16384x2048 x shapeCasts_S4x4096x2048_S16384x2048)
      (transpose (α := Ideal .f32) S2048x64 [1, 0] w transposes_S64x2048_S2048x64_1_0) = a at key hx
  pointwise [] at key
  have top (j : Fin 9) : (Host.topK S16384x9 1 (FloatOps.cmpfTotal (F := Ideal) (φ := .f32) .gt) a sliceFits_S16384x64_S16384x9).1 (ix2 r j)
      = logits x w r (rank (logits x w r) ⟨j.val, by omega⟩) := topK_value a _ r j (by omega) hx
  simp only [top, ofBits_posInf] at key
  have both (j : Fin 8) :
      logits x w r (rank (logits x w r) ⟨1 + j.val, by omega⟩) < logits x w r (rank (logits x w r) ⟨j.val, by omega⟩)
        ∧ logits x w r (rank (logits x w r) ⟨j.val, by omega⟩) < ⊤ := by
    have := key j
    constructor
    · by_contra hn
      rw [decide_eq_false hn] at this
      revert this
      generalize decide (logits x w r (rank (logits x w r) ⟨j.val, by omega⟩) < ⊤) = b
      revert b
      decide
    · by_contra hn
      rw [decide_eq_false hn] at this
      revert this
      generalize decide (logits x w r (rank (logits x w r) ⟨1 + j.val, by omega⟩) < logits x w r (rank (logits x w r) ⟨j.val, by omega⟩)) = b
      revert b
      decide
  refine ⟨fun j hj => ?_, fun j hj => (both ⟨j, hj⟩).2⟩
  have := (both ⟨j, hj⟩).1
  simpa only [Nat.add_comm 1 j] using this

end Cert.Router

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_top_strict
public import proofs.«01_k».proof.Proof.Run.Bits
public import proofs.«01_k».proof.Proof.Value.Kernel
public import proofs.«01_k».proof.Proof.Value.Reference
public import proofs.«01_k».proof.Proof.Value.Pre
public import Idealize.ShloMosaic.Adequacy
public import Idealize.ShloMosaic.Init

@[expose] public section

noncomputable section

namespace Cert.Proof

open Idealize.ShloMosaic Idealize.SL.Sem Cert.Kernel

/-- The idealized kernel and the idealized reference return the same five results, and both leave their arguments unchanged,
    wherever the precondition holds. -/
theorem algebraic : Cert.algebraic_KernelIdeal_ReferenceIdeal := by
  intro m g m' g' hpre hargs
  have hS (c : Dev Cert.KernelIdeal.nD) (r : Fin 16384) :
      Cert.Router.Strict (Cert.Router.logits (Cert.KernelIdeal.Hand.tokens m c) (Cert.KernelIdeal.Hand.router m c) r) :=
    Cert.Router.strict_of_pre _ _ (hpre c) r
  have h0 (c : Dev Cert.KernelIdeal.nD) : m' ((c.tc : Thread Cert.ReferenceIdeal.nD Cert.ReferenceIdeal.τ).loc Cert.ReferenceIdeal.main_arg0)
      = Cert.KernelIdeal.Hand.tokens m c := (hargs c).1
  have h1 (c : Dev Cert.KernelIdeal.nD) : m' ((c.tc : Thread Cert.ReferenceIdeal.nD Cert.ReferenceIdeal.τ).loc Cert.ReferenceIdeal.main_arg1)
      = Cert.KernelIdeal.Hand.router m c := (hargs c).2
  have hR := Cert.ReferenceIdeal.Hand.run_values m' g' (fun c r => by rw [h0 c, h1 c]; exact hS c r)
  refine ⟨_, _, _, _, _, Cert.KernelIdeal.Hand.run_values m g hS, (θ_run _ _ _).mono (fun s h c => ?_) hR⟩
  have hc := h c
  rw [h0 c, h1 c] at hc
  obtain ⟨a0, a1, a2, a3, a4, b0, b1⟩ := hc
  exact ⟨a0, a1, a2, a3, a4, b0.trans (h0 c).symm, b1.trans (h1 c).symm⟩

/-- Every claim of the certificate. -/
theorem claim : Cert.Claim := ⟨Cert.Kernel.Gen.facts, Cert.KernelIdeal.Gen.facts, Cert.ReferenceIdeal.Gen.facts, Cert.Pre_top_strict.Gen.facts,
  Cert.Kernel.Hand.frame, fun m ρ _ => Cert.Kernel.Hand.frame m ρ trivial, fun m ρ _ => Cert.KernelIdeal.Hand.frame m ρ,
  fun m ρ _ => Cert.ReferenceIdeal.Hand.frame m ρ, fun m ρ _ => Cert.ReferenceIdeal.Hand.frame m ρ, trivial, algebraic⟩

end Cert.Proof

end
